-- ==== Defs.lean ====
def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_in_range : Cert.Pre_in_range.Facts),
    quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S16384x4 : Shape := ⟨2, ![16384, 4]⟩
abbrev S16384 : Shape := ⟨1, ![16384]⟩
abbrev S16x1 : Shape := ⟨2, ![16, 1]⟩
abbrev S_ : Shape := ⟨0, ![]⟩

class Facts : Prop where
  bcast_S_S16384 : S_.BroadcastsInDim S16384 (![] : Fin 0 → Fin S16384.rank)
  bcast_S_S16x1 : S_.BroadcastsInDim S16x1 (![] : Fin 0 → Fin S16x1.rank)

variable [Facts]

def fn {F : FTy → Type} [FloatOps F] (main_arg0 : FVec F S16384x4 .f32) (main_arg1 : IVec S16384 32) (main_arg2 : IVec S16x1 32) : IVec S16384 1 × IVec S16x1 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 16#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 32 := constantI S_ 32 0#32
  let main_v5 : IVec S16x1 32 := broadcastInDim S16x1 ![] bcast_S_S16x1 main_c_1
  let main_v6 : IVec S16x1 1 := cmpi .sge main_arg2 main_v5
  let main_c_2 : IVec S_ 32 := constantI S_ 32 500#32
  let main_v7 : IVec S16x1 32 := broadcastInDim S16x1 ![] bcast_S_S16x1 main_c_2
  let main_v8 : IVec S16x1 1 := cmpi .sle main_arg2 main_v7
  let main_v9 : IVec S16x1 1 := andi main_v6 main_v8
  (main_v4, main_v9)
-- ==== KernelIdeal.lean ====
abbrev S16384x4 : Shape := ⟨2, ![16384, 4]⟩
abbrev S16384 : Shape := ⟨1, ![16384]⟩
abbrev S16x1 : Shape := ⟨2, ![16, 1]⟩
abbrev S501 : Shape := ⟨1, ![501]⟩
abbrev S4x16384 : Shape := ⟨2, ![4, 16384]⟩
abbrev S1x16384 : Shape := ⟨2, ![1, 16384]⟩
abbrev S1x1 : Shape := ⟨2, ![1, 1]⟩
abbrev S1 : Shape := ⟨1, ![1]⟩
abbrev S8x2048 : Shape := ⟨2, ![8, 2048]⟩
abbrev S4x2048 : Shape := ⟨2, ![4, 2048]⟩
abbrev S1x2048 : Shape := ⟨2, ![1, 2048]⟩
abbrev S7x2048 : Shape := ⟨2, ![7, 2048]⟩
abbrev S3x2048 : Shape := ⟨2, ![3, 2048]⟩
abbrev S5x2048 : Shape := ⟨2, ![5, 2048]⟩
abbrev S6x2048 : Shape := ⟨2, ![6, 2048]⟩
abbrev S2x2048 : Shape := ⟨2, ![2, 2048]⟩

abbrev nBuf : Space → Nat
  | .hbm => 10
  | .vmem => 4
  | .smem => 2
  | _ => 0

abbrev bufTy : (tb : Table) → Fin (tcTables nBuf tb) → BufTy
  | .hbm, ⟨0, _⟩ => ⟨S16384x4, .f32⟩
  | .hbm, ⟨1, _⟩ => ⟨S16384, .i32⟩
  | .hbm, ⟨2, _⟩ => ⟨S16x1, .i32⟩
  | .hbm, ⟨3, _⟩ => ⟨S501, .f32⟩
  | .hbm, ⟨4, _⟩ => ⟨S4x16384, .f32⟩
  | .hbm, ⟨5, _⟩ => ⟨S1x16384, .i32⟩
  | .hbm, ⟨6, _⟩ => ⟨S4x16384, .f32⟩
  | .hbm, ⟨7, _⟩ => ⟨S4x16384, .f32⟩
  | .hbm, ⟨8, _⟩ => ⟨S16384x4, .f32⟩
  | .hbm, ⟨9, _⟩ => ⟨S16384x4, .f32⟩
  | .local _ .vmem, ⟨0, _⟩ => ⟨S1x16384, .i32⟩
  | .local _ .vmem, ⟨1, _⟩ => ⟨S4x16384, .f32⟩
  | .local _ .vmem, ⟨2, _⟩ => ⟨S4x16384, .f32⟩
  | .local _ .vmem, ⟨3, _⟩ => ⟨S4x16384, .f32⟩
  | .local _ .smem, ⟨0, _⟩ => ⟨S16x1, .i32⟩
  | .local _ .smem, ⟨1, _⟩ => ⟨S501, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 (v5 : BitVec 32) : Fin 1 → Nat :=
  let v6 : Index := Scalar.indexCast v5
  ![v6.toNat]

def k0_chk1 (v5 : BitVec 32) : Prop :=
  (∀ a, (k0_off1 v5) a + S1.size a ≤ S501.size a)
theorem k0_off1_inb : ∀ (v5 : BitVec 32) (k0_hw1 : k0_chk1 v5), ∀ a, (k0_off1 v5) a + S1.size a ≤ S501.size a := fun v5 k0_hw1 => k0_hw1

def k0_off2 (v13 : BitVec 32) : Fin 1 → Nat :=
  let v14 : Index := Scalar.indexCast v13
  ![v14.toNat]

def k0_chk2 (v13 : BitVec 32) : Prop :=
  (∀ a, (k0_off2 v13) a + S1.size a ≤ S501.size a)
theorem k0_off2_inb : ∀ (v13 : BitVec 32) (k0_hw2 : k0_chk2 v13), ∀ a, (k0_off2 v13) a + S1.size a ≤ S501.size a := fun v13 k0_hw2 => k0_hw2

def k0_off3 (v21 : BitVec 32) : Fin 1 → Nat :=
  let v22 : Index := Scalar.indexCast v21
  ![v22.toNat]

def k0_chk3 (v21 : BitVec 32) : Prop :=
  (∀ a, (k0_off3 v21) a + S1.size a ≤ S501.size a)
theorem k0_off3_inb : ∀ (v21 : BitVec 32) (k0_hw3 : k0_chk3 v21), ∀ a, (k0_off3 v21) a + S1.size a ≤ S501.size a := fun v21 k0_hw3 => k0_hw3

def k0_off4 (v29 : BitVec 32) : Fin 1 → Nat :=
  let v30 : Index := Scalar.indexCast v29
  ![v30.toNat]

def k0_chk4 (v29 : BitVec 32) : Prop :=
  (∀ a, (k0_off4 v29) a + S1.size a ≤ S501.size a)
theorem k0_off4_inb : ∀ (v29 : BitVec 32) (k0_hw4 : k0_chk4 v29), ∀ a, (k0_off4 v29) a + S1.size a ≤ S501.size a := fun v29 k0_hw4 => k0_hw4

def k0_off5 (v37 : BitVec 32) : Fin 1 → Nat :=
  let v38 : Index := Scalar.indexCast v37
  ![v38.toNat]

def k0_chk5 (v37 : BitVec 32) : Prop :=
  (∀ a, (k0_off5 v37) a + S1.size a ≤ S501.size a)
theorem k0_off5_inb : ∀ (v37 : BitVec 32) (k0_hw5 : k0_chk5 v37), ∀ a, (k0_off5 v37) a + S1.size a ≤ S501.size a := fun v37 k0_hw5 => k0_hw5

def k0_off6 (v45 : BitVec 32) : Fin 1 → Nat :=
  let v46 : Index := Scalar.indexCast v45
  ![v46.toNat]

def k0_chk6 (v45 : BitVec 32) : Prop :=
  (∀ a, (k0_off6 v45) a + S1.size a ≤ S501.size a)
theorem k0_off6_inb : ∀ (v45 : BitVec 32) (k0_hw6 : k0_chk6 v45), ∀ a, (k0_off6 v45) a + S1.size a ≤ S501.size a := fun v45 k0_hw6 => k0_hw6

def k0_off7 (v53 : BitVec 32) : Fin 1 → Nat :=
  let v54 : Index := Scalar.indexCast v53
  ![v54.toNat]

def k0_chk7 (v53 : BitVec 32) : Prop :=
  (∀ a, (k0_off7 v53) a + S1.size a ≤ S501.size a)
theorem k0_off7_inb : ∀ (v53 : BitVec 32) (k0_hw7 : k0_chk7 v53), ∀ a, (k0_off7 v53) a + S1.size a ≤ S501.size a := fun v53 k0_hw7 => k0_hw7

def k0_off8 (v61 : BitVec 32) : Fin 1 → Nat :=
  let v62 : Index := Scalar.indexCast v61
  ![v62.toNat]

def k0_chk8 (v61 : BitVec 32) : Prop :=
  (∀ a, (k0_off8 v61) a + S1.size a ≤ S501.size a)
theorem k0_off8_inb : ∀ (v61 : BitVec 32) (k0_hw8 : k0_chk8 v61), ∀ a, (k0_off8 v61) a + S1.size a ≤ S501.size a := fun v61 k0_hw8 => k0_hw8

def k0_off9 (v69 : BitVec 32) : Fin 1 → Nat :=
  let v70 : Index := Scalar.indexCast v69
  ![v70.toNat]

def k0_chk9 (v69 : BitVec 32) : Prop :=
  (∀ a, (k0_off9 v69) a + S1.size a ≤ S501.size a)
theorem k0_off9_inb : ∀ (v69 : BitVec 32) (k0_hw9 : k0_chk9 v69), ∀ a, (k0_off9 v69) a + S1.size a ≤ S501.size a := fun v69 k0_hw9 => k0_hw9

def k0_off10 (v77 : BitVec 32) : Fin 1 → Nat :=
  let v78 : Index := Scalar.indexCast v77
  ![v78.toNat]

def k0_chk10 (v77 : BitVec 32) : Prop :=
  (∀ a, (k0_off10 v77) a + S1.size a ≤ S501.size a)
theorem k0_off10_inb : ∀ (v77 : BitVec 32) (k0_hw10 : k0_chk10 v77), ∀ a, (k0_off10 v77) a + S1.size a ≤ S501.size a := fun v77 k0_hw10 => k0_hw10

def k0_off11 (v85 : BitVec 32) : Fin 1 → Nat :=
  let v86 : Index := Scalar.indexCast v85
  ![v86.toNat]

def k0_chk11 (v85 : BitVec 32) : Prop :=
  (∀ a, (k0_off11 v85) a + S1.size a ≤ S501.size a)
theorem k0_off11_inb : ∀ (v85 : BitVec 32) (k0_hw11 : k0_chk11 v85), ∀ a, (k0_off11 v85) a + S1.size a ≤ S501.size a := fun v85 k0_hw11 => k0_hw11

def k0_off12 (v93 : BitVec 32) : Fin 1 → Nat :=
  let v94 : Index := Scalar.indexCast v93
  ![v94.toNat]

def k0_chk12 (v93 : BitVec 32) : Prop :=
  (∀ a, (k0_off12 v93) a + S1.size a ≤ S501.size a)
theorem k0_off12_inb : ∀ (v93 : BitVec 32) (k0_hw12 : k0_chk12 v93), ∀ a, (k0_off12 v93) a + S1.size a ≤ S501.size a := fun v93 k0_hw12 => k0_hw12

def k0_off13 (v101 : BitVec 32) : Fin 1 → Nat :=
  let v102 : Index := Scalar.indexCast v101
  ![v102.toNat]

def k0_chk13 (v101 : BitVec 32) : Prop :=
  (∀ a, (k0_off13 v101) a + S1.size a ≤ S501.size a)
theorem k0_off13_inb : ∀ (v101 : BitVec 32) (k0_hw13 : k0_chk13 v101), ∀ a, (k0_off13 v101) a + S1.size a ≤ S501.size a := fun v101 k0_hw13 => k0_hw13

def k0_off14 (v109 : BitVec 32) : Fin 1 → Nat :=
  let v110 : Index := Scalar.indexCast v109
  ![v110.toNat]

def k0_chk14 (v109 : BitVec 32) : Prop :=
  (∀ a, (k0_off14 v109) a + S1.size a ≤ S501.size a)
theorem k0_off14_inb : ∀ (v109 : BitVec 32) (k0_hw14 : k0_chk14 v109), ∀ a, (k0_off14 v109) a + S1.size a ≤ S501.size a := fun v109 k0_hw14 => k0_hw14

def k0_off15 (v117 : BitVec 32) : Fin 1 → Nat :=
  let v118 : Index := Scalar.indexCast v117
  ![v118.toNat]

def k0_chk15 (v117 : BitVec 32) : Prop :=
  (∀ a, (k0_off15 v117) a + S1.size a ≤ S501.size a)
theorem k0_off15_inb : ∀ (v117 : BitVec 32) (k0_hw15 : k0_chk15 v117), ∀ a, (k0_off15 v117) a + S1.size a ≤ S501.size a := fun v117 k0_hw15 => k0_hw15

def k0_off16 (v125 : BitVec 32) : Fin 1 → Nat :=
  let v126 : Index := Scalar.indexCast v125
  ![v126.toNat]

def k0_chk16 (v125 : BitVec 32) : Prop :=
  (∀ a, (k0_off16 v125) a + S1.size a ≤ S501.size a)
theorem k0_off16_inb : ∀ (v125 : BitVec 32) (k0_hw16 : k0_chk16 v125), ∀ a, (k0_off16 v125) a + S1.size a ≤ S501.size a := fun v125 k0_hw16 => k0_hw16

abbrev stage0_0 : Fin 1 → Memref sig .tc .smem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S501 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x4 : Shape := ⟨2, ![16384, 4]⟩
abbrev S16384 : Shape := ⟨1, ![16384]⟩
abbrev S16x1 : Shape := ⟨2, ![16, 1]⟩
abbrev S501 : Shape := ⟨1, ![501]⟩
abbrev S_ : Shape := ⟨0, ![]⟩
abbrev S16 : Shape := ⟨1, ![16]⟩
abbrev S4x4 : Shape := ⟨2, ![4, 4]⟩
abbrev S16x1x1 : Shape := ⟨3, ![16, 1, 1]⟩
abbrev S1x4x4 : Shape := ⟨3, ![1, 4, 4]⟩
abbrev S16x4x4 : Shape := ⟨3, ![16, 4, 4]⟩
abbrev S16384x1 : Shape := ⟨2, ![16384, 1]⟩
abbrev S1 : Shape := ⟨1, ![1]⟩
abbrev S1x1 : Shape := ⟨2, ![1, 1]⟩
abbrev S16384x4x4 : Shape := ⟨3, ![16384, 4, 4]⟩
abbrev S2 : Shape := ⟨1, ![2]⟩
abbrev S1x4 : Shape := ⟨2, ![1, 4]⟩

abbrev nBuf : Space → Nat
  | .hbm => 371
  | .vmem => 0
  | .smem => 0
  | _ => 0

abbrev hbmTy0_0 (i : Nat) : BufTy := match i % 128 with
  | 0 => ⟨S16384x4, .f32⟩
  | 1 => ⟨S16384, .i32⟩
  | 2 => ⟨S16x1, .i32⟩
  | 3 => ⟨S501, .f32⟩
  | 4 => ⟨S16x1, .f32⟩
  | 5 => ⟨S_, .f32⟩
  | 6 => ⟨S16x1, .f32⟩
  | 7 => ⟨S16x1, .f32⟩
  | 8 => ⟨S_, .f32⟩
  | 9 => ⟨S16x1, .f32⟩
  | 10 => ⟨S16x1, .f32⟩
  | 11 => ⟨S16x1, .f32⟩
  | 12 => ⟨S16x1, .i32⟩
  | 13 => ⟨S16, .i32⟩
  | 14 => ⟨S_, .i32⟩
  | 15 => ⟨S16, .i32⟩
  | 16 => ⟨S16, .i1⟩
  | 17 => ⟨S_, .i32⟩
  | 18 => ⟨S16, .i32⟩
  | 19 => ⟨S16, .i32⟩
  | 20 => ⟨S16, .i32⟩
  | 21 => ⟨S16x1, .i32⟩
  | 22 => ⟨S16, .f32⟩
  | 23 => ⟨S4x4, .i32⟩
  | 24 => ⟨S4x4, .i32⟩
  | 25 => ⟨S_, .i32⟩
  | 26 => ⟨S4x4, .i32⟩
  | 27 => ⟨S4x4, .i32⟩
  | 28 => ⟨S4x4, .i1⟩
  | 29 => ⟨S4x4, .f32⟩
  | 30 => ⟨S_, .f32⟩
  | 31 => ⟨S4x4, .f32⟩
  | 32 => ⟨S_, .f32⟩
  | 33 => ⟨S4x4, .f32⟩
  | 34 => ⟨S4x4, .f32⟩
  | 35 => ⟨S16x1x1, .f32⟩
  | 36 => ⟨S1x4x4, .f32⟩
  | 37 => ⟨S16x4x4, .f32⟩
  | 38 => ⟨S16x4x4, .f32⟩
  | 39 => ⟨S16x4x4, .f32⟩
  | 40 => ⟨S_, .f32⟩
  | 41 => ⟨S16, .f32⟩
  | 42 => ⟨S16, .f32⟩
  | 43 => ⟨S16x1x1, .f32⟩
  | 44 => ⟨S1x4x4, .f32⟩
  | 45 => ⟨S16x4x4, .f32⟩
  | 46 => ⟨S16x4x4, .f32⟩
  | 47 => ⟨S16x4x4, .f32⟩
  | 48 => ⟨S16x4x4, .f32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x4x4, .f32⟩
  | 68 => ⟨S16384x4x4, .i1⟩
  | 69 => ⟨S_, .f32⟩
  | 70 => ⟨S16384x4x4, .f32⟩
  | 71 => ⟨S16384x4x4, .f32⟩
  | 72 => ⟨S16384x4, .f32⟩
  | 73 => ⟨S_, .f32⟩
  | 74 => ⟨S16384, .f32⟩
  | 75 => ⟨S16384x1, .f32⟩
  | 76 => ⟨S16384x4, .f32⟩
  | 77 => ⟨S16384x4, .f32⟩
  | 78 => ⟨S_, .i32⟩
  | 79 => ⟨S_, .i32⟩
  | 80 => ⟨S_, .i32⟩
  | 81 => ⟨S_, .i32⟩
  | 82 => ⟨S1, .i32⟩
  | 83 => ⟨S_, .i32⟩
  | 84 => ⟨S_, .i32⟩
  | 85 => ⟨S_, .i32⟩
  | 86 => ⟨S1, .i32⟩
  | 87 => ⟨S2, .i32⟩
  | 88 => ⟨S_, .f32⟩
  | 89 => ⟨S16384x4, .f32⟩
  | 90 => ⟨S16384x4, .f32⟩
  | 91 => ⟨S16384x4, .f32⟩
  | 92 => ⟨S_, .f32⟩
  | 93 => ⟨S_, .f32⟩
  | 94 => ⟨S_, .f32⟩
  | 95 => ⟨S1x1, .f32⟩
  | 96 => ⟨S1x1, .f32⟩
  | 97 => ⟨S1, .i32⟩
  | 98 => ⟨S_, .i32⟩
  | 99 => ⟨S1, .i32⟩
  | 100 => ⟨S_, .i32⟩
  | 101 => ⟨S16384x4, .i64⟩
  | 102 => ⟨S16384x4, .i64⟩
  | 103 => ⟨S_, .i64⟩
  | 104 => ⟨S16384x4, .i64⟩
  | 105 => ⟨S16384x4, .i64⟩
  | 106 => ⟨S_, .i64⟩
  | 107 => ⟨S16384x4, .i64⟩
  | 108 => ⟨S16384x4, .i64⟩
  | 109 => ⟨S16384x4, .i64⟩
  | 110 => ⟨S_, .i64⟩
  | 111 => ⟨S16384x4, .i64⟩
  | 112 => ⟨S16384x4, .i64⟩
  | 113 => ⟨S16384x4, .i32⟩
  | 114 => ⟨S16384x4, .i32⟩
  | 115 => ⟨S_, .i32⟩
  | 116 => ⟨S_, .i32⟩
  | 117 => ⟨S_, .i32⟩
  | 118 => ⟨S16384x4, .i32⟩
  | 119 => ⟨S16384x4, .i32⟩
  | 120 => ⟨S16384x4, .i32⟩
  | 121 => ⟨S16384x4, .i32⟩
  | 122 => ⟨S16384x4, .i32⟩
  | 123 => ⟨S_, .i32⟩
  | 124 => ⟨S16384x4, .i32⟩
  | 125 => ⟨S16384x4, .i32⟩
  | 126 => ⟨S_, .i32⟩
  | 127 => ⟨S16384x4, .i32⟩
  | _ => ⟨S16384x4, .f32⟩

abbrev hbmTy0_1 (i : Nat) : BufTy := match i % 128 with
  | 0 => ⟨S16384x4, .i32⟩
  | 1 => ⟨S16384x4, .i32⟩
  | 2 => ⟨S16384x4, .i32⟩
  | 3 => ⟨S16384x4, .i32⟩
  | 4 => ⟨S_, .i32⟩
  | 5 => ⟨S16384x4, .i32⟩
  | 6 => ⟨S16384x4, .i32⟩
  | 7 => ⟨S_, .i32⟩
  | 8 => ⟨S16384x4, .i32⟩
  | 9 => ⟨S16384x4, .i32⟩
  | 10 => ⟨S16384x4, .i32⟩
  | 11 => ⟨S16384x4, .i32⟩
  | 12 => ⟨S16384x4, .i32⟩
  | 13 => ⟨S_, .i32⟩
  | 14 => ⟨S16384x4, .i32⟩
  | 15 => ⟨S16384x4, .i32⟩
  | 16 => ⟨S_, .i32⟩
  | 17 => ⟨S16384x4, .i32⟩
  | 18 => ⟨S16384x4, .i32⟩
  | 19 => ⟨S16384x4, .i32⟩
  | 20 => ⟨S16384x4, .i32⟩
  | 21 => ⟨S16384x4, .i32⟩
  | 22 => ⟨S_, .i32⟩
  | 23 => ⟨S16384x4, .i32⟩
  | 24 => ⟨S16384x4, .i32⟩
  | 25 => ⟨S_, .i32⟩
  | 26 => ⟨S16384x4, .i32⟩
  | 27 => ⟨S16384x4, .i32⟩
  | 28 => ⟨S16384x4, .i32⟩
  | 29 => ⟨S16384x4, .i32⟩
  | 30 => ⟨S16384x4, .i32⟩
  | 31 => ⟨S16384x4, .i32⟩
  | 32 => ⟨S16384x4, .i32⟩
  | 33 => ⟨S16384x4, .i32⟩
  | 34 => ⟨S_, .i32⟩
  | 35 => ⟨S16384x4, .i32⟩
  | 36 => ⟨S16384x4, .i32⟩
  | 37 => ⟨S16384x4, .i32⟩
  | 38 => ⟨S_, .i32⟩
  | 39 => ⟨S16384x4, .i32⟩
  | 40 => ⟨S16384x4, .i32⟩
  | 41 => ⟨S_, .i32⟩
  | 42 => ⟨S16384x4, .i32⟩
  | 43 => ⟨S16384x4, .i32⟩
  | 44 => ⟨S16384x4, .i32⟩
  | 45 => ⟨S16384x4, .i32⟩
  | 46 => ⟨S16384x4, .i32⟩
  | 47 => ⟨S_, .i32⟩
  | 48 => ⟨S16384x4, .i32⟩
  | 49 => ⟨S16384x4, .i32⟩
  | 50 => ⟨S_, .i32⟩
  | 51 => ⟨S16384x4, .i32⟩
  | 52 => ⟨S16384x4, .i32⟩
  | 53 => ⟨S16384x4, .i32⟩
  | 54 => ⟨S16384x4, .i32⟩
  | 55 => ⟨S16384x4, .i32⟩
  | 56 => ⟨S_, .i32⟩
  | 57 => ⟨S16384x4, .i32⟩
  | 58 => ⟨S16384x4, .i32⟩
  | 59 => ⟨S_, .i32⟩
  | 60 => ⟨S16384x4, .i32⟩
  | 61 => ⟨S16384x4, .i32⟩
  | 62 => ⟨S16384x4, .i32⟩
  | 63 => ⟨S16384x4, .i32⟩
  | 64 => ⟨S16384x4, .i32⟩
  | 65 => ⟨S_, .i32⟩
  | 66 => ⟨S16384x4, .i32⟩
  | 67 => ⟨S16384x4, .i32⟩
  | 68 => ⟨S_, .i32⟩
  | 69 => ⟨S16384x4, .i32⟩
  | 70 => ⟨S16384x4, .i32⟩
  | 71 => ⟨S16384x4, .i32⟩
  | 72 => ⟨S16384x4, .i32⟩
  | 73 => ⟨S16384x4, .i32⟩
  | 74 => ⟨S16384x4, .i32⟩
  | 75 => ⟨S16384x4, .i32⟩
  | 76 => ⟨S16384x4, .i32⟩
  | 77 => ⟨S_, .i32⟩
  | 78 => ⟨S16384x4, .i32⟩
  | 79 => ⟨S16384x4, .i32⟩
  | 80 => ⟨S16384x4, .i32⟩
  | 81 => ⟨S_, .i32⟩
  | 82 => ⟨S16384x4, .i32⟩
  | 83 => ⟨S16384x4, .i32⟩
  | 84 => ⟨S_, .i32⟩
  | 85 => ⟨S16384x4, .i32⟩
  | 86 => ⟨S16384x4, .i32⟩
  | 87 => ⟨S16384x4, .i32⟩
  | 88 => ⟨S16384x4, .i32⟩
  | 89 => ⟨S16384x4, .i32⟩
  | 90 => ⟨S_, .i32⟩
  | 91 => ⟨S16384x4, .i32⟩
  | 92 => ⟨S16384x4, .i32⟩
  | 93 => ⟨S_, .i32⟩
  | 94 => ⟨S16384x4, .i32⟩
  | 95 => ⟨S16384x4, .i32⟩
  | 96 => ⟨S16384x4, .i32⟩
  | 97 => ⟨S16384x4, .i32⟩
  | 98 => ⟨S16384x4, .i32⟩
  | 99 => ⟨S_, .i32⟩
  | 100 => ⟨S16384x4, .i32⟩
  | 101 => ⟨S16384x4, .i32⟩
  | 102 => ⟨S_, .i32⟩
  | 103 => ⟨S16384x4, .i32⟩
  | 104 => ⟨S16384x4, .i32⟩
  | 105 => ⟨S16384x4, .i32⟩
  | 106 => ⟨S16384x4, .i32⟩
  | 107 => ⟨S16384x4, .i32⟩
  | 108 => ⟨S_, .i32⟩
  | 109 => ⟨S16384x4, .i32⟩
  | 110 => ⟨S16384x4, .i32⟩
  | 111 => ⟨S_, .i32⟩
  | 112 => ⟨S16384x4, .i32⟩
  | 113 => ⟨S16384x4, .i32⟩
  | 114 => ⟨S16384x4, .i32⟩
  | 115 => ⟨S16384x4, .i32⟩
  | 116 => ⟨S16384x4, .i32⟩
  | 117 => ⟨S16384x4, .i32⟩
  | 118 => ⟨S16384x4, .i32⟩
  | 119 => ⟨S16384x4, .i32⟩
  | 120 => ⟨S_, .i32⟩
  | 121 => ⟨S16384x4, .i32⟩
  | 122 => ⟨S16384x4, .i32⟩
  | 123 => ⟨S16384x4, .i32⟩
  | 124 => ⟨S_, .i32⟩
  | 125 => ⟨S16384x4, .i32⟩
  | 126 => ⟨S16384x4, .i32⟩
  | 127 => ⟨S_, .i32⟩
  | _ => ⟨S16384x4, .f32⟩

abbrev hbmTy0_2 (i : Nat) : BufTy := match i % 128 with
  | 0 => ⟨S16384x4, .i32⟩
  | 1 => ⟨S16384x4, .i32⟩
  | 2 => ⟨S16384x4, .i32⟩
  | 3 => ⟨S16384x4, .i32⟩
  | 4 => ⟨S16384x4, .i32⟩
  | 5 => ⟨S_, .i32⟩
  | 6 => ⟨S16384x4, .i32⟩
  | 7 => ⟨S16384x4, .i32⟩
  | 8 => ⟨S_, .i32⟩
  | 9 => ⟨S16384x4, .i32⟩
  | 10 => ⟨S16384x4, .i32⟩
  | 11 => ⟨S16384x4, .i32⟩
  | 12 => ⟨S16384x4, .i32⟩
  | 13 => ⟨S16384x4, .i32⟩
  | 14 => ⟨S_, .i32⟩
  | 15 => ⟨S16384x4, .i32⟩
  | 16 => ⟨S16384x4, .i32⟩
  | 17 => ⟨S_, .i32⟩
  | 18 => ⟨S16384x4, .i32⟩
  | 19 => ⟨S16384x4, .i32⟩
  | 20 => ⟨S16384x4, .i32⟩
  | 21 => ⟨S16384x4, .i32⟩
  | 22 => ⟨S16384x4, .i32⟩
  | 23 => ⟨S_, .i32⟩
  | 24 => ⟨S16384x4, .i32⟩
  | 25 => ⟨S16384x4, .i32⟩
  | 26 => ⟨S_, .i32⟩
  | 27 => ⟨S16384x4, .i32⟩
  | 28 => ⟨S16384x4, .i32⟩
  | 29 => ⟨S16384x4, .i32⟩
  | 30 => ⟨S16384x4, .i32⟩
  | 31 => ⟨S16384x4, .i32⟩
  | 32 => ⟨S16384x4, .i32⟩
  | 33 => ⟨S16384x4, .i32⟩
  | 34 => ⟨S16384x4, .i32⟩
  | 35 => ⟨S_, .i32⟩
  | 36 => ⟨S16384x4, .i32⟩
  | 37 => ⟨S16384x4, .i32⟩
  | 38 => ⟨S16384x4, .i32⟩
  | 39 => ⟨S_, .i32⟩
  | 40 => ⟨S16384x4, .i32⟩
  | 41 => ⟨S16384x4, .i32⟩
  | 42 => ⟨S_, .i32⟩
  | 43 => ⟨S16384x4, .i32⟩
  | 44 => ⟨S16384x4, .i32⟩
  | 45 => ⟨S16384x4, .i32⟩
  | 46 => ⟨S16384x4, .i32⟩
  | 47 => ⟨S16384x4, .i32⟩
  | 48 => ⟨S_, .i32⟩
  | 49 => ⟨S16384x4, .i32⟩
  | 50 => ⟨S16384x4, .i32⟩
  | 51 => ⟨S_, .i32⟩
  | 52 => ⟨S16384x4, .i32⟩
  | 53 => ⟨S16384x4, .i32⟩
  | 54 => ⟨S16384x4, .i32⟩
  | 55 => ⟨S16384x4, .i32⟩
  | 56 => ⟨S16384x4, .i32⟩
  | 57 => ⟨S_, .i32⟩
  | 58 => ⟨S16384x4, .i32⟩
  | 59 => ⟨S16384x4, .i32⟩
  | 60 => ⟨S_, .i32⟩
  | 61 => ⟨S16384x4, .i32⟩
  | 62 => ⟨S16384x4, .i32⟩
  | 63 => ⟨S16384x4, .i32⟩
  | 64 => ⟨S16384x4, .i32⟩
  | 65 => ⟨S16384x4, .i32⟩
  | 66 => ⟨S_, .i32⟩
  | 67 => ⟨S16384x4, .i32⟩
  | 68 => ⟨S16384x4, .i32⟩
  | 69 => ⟨S_, .i32⟩
  | 70 => ⟨S16384x4, .i32⟩
  | 71 => ⟨S16384x4, .i32⟩
  | 72 => ⟨S16384x4, .i32⟩
  | 73 => ⟨S16384x4, .i32⟩
  | 74 => ⟨S16384x4, .i32⟩
  | 75 => ⟨S16384x4, .i32⟩
  | 76 => ⟨S16384x4, .i32⟩
  | 77 => ⟨S16384x4, .i32⟩
  | 78 => ⟨S_, .i32⟩
  | 79 => ⟨S16384x4, .i32⟩
  | 80 => ⟨S16384x4, .i32⟩
  | 81 => ⟨S16384x4, .i32⟩
  | 82 => ⟨S_, .i32⟩
  | 83 => ⟨S16384x4, .i32⟩
  | 84 => ⟨S16384x4, .i32⟩
  | 85 => ⟨S_, .i32⟩
  | 86 => ⟨S16384x4, .i32⟩
  | 87 => ⟨S16384x4, .i32⟩
  | 88 => ⟨S16384x4, .f32⟩
  | 89 => ⟨S_, .f32⟩
  | 90 => ⟨S16384x4, .f32⟩
  | 91 => ⟨S16384x4, .f32⟩
  | 92 => ⟨S1x1, .f32⟩
  | 93 => ⟨S16384x4, .f32⟩
  | 94 => ⟨S16384x4, .f32⟩
  | 95 => ⟨S16384x4, .f32⟩
  | 96 => ⟨S16384x4, .f32⟩
  | 97 => ⟨S16384x4, .f32⟩
  | 98 => ⟨S16384x4, .f32⟩
  | 99 => ⟨S16384x4, .f32⟩
  | 100 => ⟨S16384x4, .f32⟩
  | 101 => ⟨S16384x4, .f32⟩
  | 102 => ⟨S16384x4, .f32⟩
  | 103 => ⟨S16384x4, .f32⟩
  | 104 => ⟨S16384x4, .i32⟩
  | 105 => ⟨S_, .f32⟩
  | 106 => ⟨S_, .i32⟩
  | 107 => ⟨S16384, .f32⟩
  | 108 => ⟨S16384, .i32⟩
  | 109 => ⟨S16384x1, .i32⟩
  | 110 => ⟨S1x4, .i32⟩
  | 111 => ⟨S16384x4, .i32⟩
  | 112 => ⟨S16384x4, .i32⟩
  | 113 => ⟨S16384x4, .i1⟩
  | 114 => ⟨S16384x4, .f32⟩
  | _ => ⟨S16384x4, .f32⟩

abbrev hbmTy (i : Nat) : BufTy := match i / 128 with
  | 0 => hbmTy0_0 i
  | 1 => hbmTy0_1 i
  | 2 => hbmTy0_2 i
  | _ => ⟨S16384x4, .f32⟩

abbrev bufTy : (tb : Table) → Fin (tcTables nBuf tb) → BufTy
  | .hbm, ⟨i, _⟩ => hbmTy i
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_8 : Ref sig .tc := ⟨.hbm, 78, rfl⟩
abbrev main_c_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call2_cst : Ref sig .tc := ⟨.hbm, 92, rfl⟩
abbrev main_call2_cst_0 : Ref sig .tc := ⟨.hbm, 93, rfl⟩
abbrev main_call2_call0_v0 : Ref sig .tc := ⟨.hbm, 94, rfl⟩
abbrev main_call2_call0_v1 : Ref sig .tc := ⟨.hbm, 95, rfl⟩
abbrev main_call2_call0_v2 : Ref sig .tc := ⟨.hbm, 96, rfl⟩
abbrev main_call2_call0_v3 : Ref sig .tc := ⟨.hbm, 97, rfl⟩
abbrev main_call2_call0_v4 : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_v7 : Ref sig .tc := ⟨.hbm, 101, rfl⟩
abbrev main_call2_call0_v8 : Ref sig .tc := ⟨.hbm, 102, rfl⟩
abbrev main_call2_call0_c : Ref sig .tc := ⟨.hbm, 103, rfl⟩
abbrev main_call2_call0_v9 : Ref sig .tc := ⟨.hbm, 104, rfl⟩
abbrev main_call2_call0_v10 : Ref sig .tc := ⟨.hbm, 105, rfl⟩
abbrev main_call2_call0_c_0 : Ref sig .tc := ⟨.hbm, 106, rfl⟩
abbrev main_call2_call0_v11 : Ref sig .tc := ⟨.hbm, 107, rfl⟩
abbrev main_call2_call0_v12 : Ref sig .tc := ⟨.hbm, 108, rfl⟩
abbrev main_call2_call0_v13 : Ref sig .tc := ⟨.hbm, 109, rfl⟩
abbrev main_call2_call0_c_1 : Ref sig .tc := ⟨.hbm, 110, rfl⟩
abbrev main_call2_call0_v14 : Ref sig .tc := ⟨.hbm, 111, rfl⟩
abbrev main_call2_call0_v15 : Ref sig .tc := ⟨.hbm, 112, rfl⟩
abbrev main_call2_call0_v16 : Ref sig .tc := ⟨.hbm, 113, rfl⟩
abbrev main_call2_call0_v17 : Ref sig .tc := ⟨.hbm, 114, rfl⟩
abbrev main_call2_call0_call0_v0 : Ref sig .tc := ⟨.hbm, 115, rfl⟩
abbrev main_call2_call0_call0_c : Ref sig .tc := ⟨.hbm, 116, rfl⟩
abbrev main_call2_call0_call0_v1 : Ref sig .tc := ⟨.hbm, 117, rfl⟩
abbrev main_call2_call0_call0_v2 : Ref sig .tc := ⟨.hbm, 118, rfl⟩
abbrev main_call2_call0_call0_v3 : Ref sig .tc := ⟨.hbm, 119, rfl⟩
abbrev main_call2_call0_call0_v4 : Ref sig .tc := ⟨.hbm, 120, rfl⟩
abbrev main_call2_call0_call0_v5 : Ref sig .tc := ⟨.hbm, 121, rfl⟩
abbrev main_call2_call0_call0_v6 : Ref sig .tc := ⟨.hbm, 122, rfl⟩
abbrev main_call2_call0_call0_c_0 : Ref sig .tc := ⟨.hbm, 123, rfl⟩
abbrev main_call2_call0_call0_v7 : Ref sig .tc := ⟨.hbm, 124, rfl⟩
abbrev main_call2_call0_call0_v8 : Ref sig .tc := ⟨.hbm, 125, rfl⟩
abbrev main_call2_call0_call0_c_1 : Ref sig .tc := ⟨.hbm, 126, rfl⟩
abbrev main_call2_call0_call0_v9 : Ref sig .tc := ⟨.hbm, 127, rfl⟩
abbrev main_call2_call0_call0_v10 : Ref sig .tc := ⟨.hbm, 128, rfl⟩
abbrev main_call2_call0_call0_v11 : Ref sig .tc := ⟨.hbm, 129, rfl⟩
abbrev main_call2_call0_call0_v12 : Ref sig .tc := ⟨.hbm, 130, rfl⟩
abbrev main_call2_call0_call0_v13 : Ref sig .tc := ⟨.hbm, 131, rfl⟩
abbrev main_call2_call0_call0_c_2 : Ref sig .tc := ⟨.hbm, 132, rfl⟩
abbrev main_call2_call0_call0_v14 : Ref sig .tc := ⟨.hbm, 133, rfl⟩
abbrev main_call2_call0_call0_v15 : Ref sig .tc := ⟨.hbm, 134, rfl⟩
abbrev main_call2_call0_call0_c_3 : Ref sig .tc := ⟨.hbm, 135, rfl⟩
abbrev main_call2_call0_call0_v16 : Ref sig .tc := ⟨.hbm, 136, rfl⟩
abbrev main_call2_call0_call0_v17 : Ref sig .tc := ⟨.hbm, 137, rfl⟩
abbrev main_call2_call0_call0_v18 : Ref sig .tc := ⟨.hbm, 138, rfl⟩
abbrev main_call2_call0_call0_v19 : Ref sig .tc := ⟨.hbm, 139, rfl⟩
abbrev main_call2_call0_call0_v20 : Ref sig .tc := ⟨.hbm, 140, rfl⟩
abbrev main_call2_call0_call0_c_4 : Ref sig .tc := ⟨.hbm, 141, rfl⟩
abbrev main_call2_call0_call0_v21 : Ref sig .tc := ⟨.hbm, 142, rfl⟩
abbrev main_call2_call0_call0_v22 : Ref sig .tc := ⟨.hbm, 143, rfl⟩
abbrev main_call2_call0_call0_c_5 : Ref sig .tc := ⟨.hbm, 144, rfl⟩
abbrev main_call2_call0_call0_v23 : Ref sig .tc := ⟨.hbm, 145, rfl⟩
abbrev main_call2_call0_call0_v24 : Ref sig .tc := ⟨.hbm, 146, rfl⟩
abbrev main_call2_call0_call0_v25 : Ref sig .tc := ⟨.hbm, 147, rfl⟩
abbrev main_call2_call0_call0_v26 : Ref sig .tc := ⟨.hbm, 148, rfl⟩
abbrev main_call2_call0_call0_v27 : Ref sig .tc := ⟨.hbm, 149, rfl⟩
abbrev main_call2_call0_call0_c_6 : Ref sig .tc := ⟨.hbm, 150, rfl⟩
abbrev main_call2_call0_call0_v28 : Ref sig .tc := ⟨.hbm, 151, rfl⟩
abbrev main_call2_call0_call0_v29 : Ref sig .tc := ⟨.hbm, 152, rfl⟩
abbrev main_call2_call0_call0_c_7 : Ref sig .tc := ⟨.hbm, 153, rfl⟩
abbrev main_call2_call0_call0_v30 : Ref sig .tc := ⟨.hbm, 154, rfl⟩
abbrev main_call2_call0_call0_v31 : Ref sig .tc := ⟨.hbm, 155, rfl⟩
abbrev main_call2_call0_call0_v32 : Ref sig .tc := ⟨.hbm, 156, rfl⟩
abbrev main_call2_call0_call0_v33 : Ref sig .tc := ⟨.hbm, 157, rfl⟩
abbrev main_call2_call0_call0_v34 : Ref sig .tc := ⟨.hbm, 158, rfl⟩
abbrev main_call2_call0_call0_v35 : Ref sig .tc := ⟨.hbm, 159, rfl⟩
abbrev main_call2_call0_call0_v36 : Ref sig .tc := ⟨.hbm, 160, rfl⟩
abbrev main_call2_call0_call0_v37 : Ref sig .tc := ⟨.hbm, 161, rfl⟩
abbrev main_call2_call0_call0_c_8 : Ref sig .tc := ⟨.hbm, 162, rfl⟩
abbrev main_call2_call0_call0_v38 : Ref sig .tc := ⟨.hbm, 163, rfl⟩
abbrev main_call2_call0_call0_v39 : Ref sig .tc := ⟨.hbm, 164, rfl⟩
abbrev main_call2_call0_call0_v40 : Ref sig .tc := ⟨.hbm, 165, rfl⟩
abbrev main_call2_call0_call0_c_9 : Ref sig .tc := ⟨.hbm, 166, rfl⟩
abbrev main_call2_call0_call0_v41 : Ref sig .tc := ⟨.hbm, 167, rfl⟩
abbrev main_call2_call0_call0_v42 : Ref sig .tc := ⟨.hbm, 168, rfl⟩
abbrev main_call2_call0_call0_c_10 : Ref sig .tc := ⟨.hbm, 169, rfl⟩
abbrev main_call2_call0_call0_v43 : Ref sig .tc := ⟨.hbm, 170, rfl⟩
abbrev main_call2_call0_call0_v44 : Ref sig .tc := ⟨.hbm, 171, rfl⟩
abbrev main_call2_call0_call0_v45 : Ref sig .tc := ⟨.hbm, 172, rfl⟩
abbrev main_call2_call0_call0_v46 : Ref sig .tc := ⟨.hbm, 173, rfl⟩
abbrev main_call2_call0_call0_v47 : Ref sig .tc := ⟨.hbm, 174, rfl⟩
abbrev main_call2_call0_call0_c_11 : Ref sig .tc := ⟨.hbm, 175, rfl⟩
abbrev main_call2_call0_call0_v48 : Ref sig .tc := ⟨.hbm, 176, rfl⟩
abbrev main_call2_call0_call0_v49 : Ref sig .tc := ⟨.hbm, 177, rfl⟩
abbrev main_call2_call0_call0_c_12 : Ref sig .tc := ⟨.hbm, 178, rfl⟩
abbrev main_call2_call0_call0_v50 : Ref sig .tc := ⟨.hbm, 179, rfl⟩
abbrev main_call2_call0_call0_v51 : Ref sig .tc := ⟨.hbm, 180, rfl⟩
abbrev main_call2_call0_call0_v52 : Ref sig .tc := ⟨.hbm, 181, rfl⟩
abbrev main_call2_call0_call0_v53 : Ref sig .tc := ⟨.hbm, 182, rfl⟩
abbrev main_call2_call0_call0_v54 : Ref sig .tc := ⟨.hbm, 183, rfl⟩
abbrev main_call2_call0_call0_c_13 : Ref sig .tc := ⟨.hbm, 184, rfl⟩
abbrev main_call2_call0_call0_v55 : Ref sig .tc := ⟨.hbm, 185, rfl⟩
abbrev main_call2_call0_call0_v56 : Ref sig .tc := ⟨.hbm, 186, rfl⟩
abbrev main_call2_call0_call0_c_14 : Ref sig .tc := ⟨.hbm, 187, rfl⟩
abbrev main_call2_call0_call0_v57 : Ref sig .tc := ⟨.hbm, 188, rfl⟩
abbrev main_call2_call0_call0_v58 : Ref sig .tc := ⟨.hbm, 189, rfl⟩
abbrev main_call2_call0_call0_v59 : Ref sig .tc := ⟨.hbm, 190, rfl⟩
abbrev main_call2_call0_call0_v60 : Ref sig .tc := ⟨.hbm, 191, rfl⟩
abbrev main_call2_call0_call0_v61 : Ref sig .tc := ⟨.hbm, 192, rfl⟩
abbrev main_call2_call0_call0_c_15 : Ref sig .tc := ⟨.hbm, 193, rfl⟩
abbrev main_call2_call0_call0_v62 : Ref sig .tc := ⟨.hbm, 194, rfl⟩
abbrev main_call2_call0_call0_v63 : Ref sig .tc := ⟨.hbm, 195, rfl⟩
abbrev main_call2_call0_call0_c_16 : Ref sig .tc := ⟨.hbm, 196, rfl⟩
abbrev main_call2_call0_call0_v64 : Ref sig .tc := ⟨.hbm, 197, rfl⟩
abbrev main_call2_call0_call0_v65 : Ref sig .tc := ⟨.hbm, 198, rfl⟩
abbrev main_call2_call0_call0_v66 : Ref sig .tc := ⟨.hbm, 199, rfl⟩
abbrev main_call2_call0_call0_v67 : Ref sig .tc := ⟨.hbm, 200, rfl⟩
abbrev main_call2_call0_call0_v68 : Ref sig .tc := ⟨.hbm, 201, rfl⟩
abbrev main_call2_call0_call0_v69 : Ref sig .tc := ⟨.hbm, 202, rfl⟩
abbrev main_call2_call0_call0_v70 : Ref sig .tc := ⟨.hbm, 203, rfl⟩
abbrev main_call2_call0_call0_v71 : Ref sig .tc := ⟨.hbm, 204, rfl⟩
abbrev main_call2_call0_call0_c_17 : Ref sig .tc := ⟨.hbm, 205, rfl⟩
abbrev main_call2_call0_call0_v72 : Ref sig .tc := ⟨.hbm, 206, rfl⟩
abbrev main_call2_call0_call0_v73 : Ref sig .tc := ⟨.hbm, 207, rfl⟩
abbrev main_call2_call0_call0_v74 : Ref sig .tc := ⟨.hbm, 208, rfl⟩
abbrev main_call2_call0_call0_c_18 : Ref sig .tc := ⟨.hbm, 209, rfl⟩
abbrev main_call2_call0_call0_v75 : Ref sig .tc := ⟨.hbm, 210, rfl⟩
abbrev main_call2_call0_call0_v76 : Ref sig .tc := ⟨.hbm, 211, rfl⟩
abbrev main_call2_call0_call0_c_19 : Ref sig .tc := ⟨.hbm, 212, rfl⟩
abbrev main_call2_call0_call0_v77 : Ref sig .tc := ⟨.hbm, 213, rfl⟩
abbrev main_call2_call0_call0_v78 : Ref sig .tc := ⟨.hbm, 214, rfl⟩
abbrev main_call2_call0_call0_v79 : Ref sig .tc := ⟨.hbm, 215, rfl⟩
abbrev main_call2_call0_call0_v80 : Ref sig .tc := ⟨.hbm, 216, rfl⟩
abbrev main_call2_call0_call0_v81 : Ref sig .tc := ⟨.hbm, 217, rfl⟩
abbrev main_call2_call0_call0_c_20 : Ref sig .tc := ⟨.hbm, 218, rfl⟩
abbrev main_call2_call0_call0_v82 : Ref sig .tc := ⟨.hbm, 219, rfl⟩
abbrev main_call2_call0_call0_v83 : Ref sig .tc := ⟨.hbm, 220, rfl⟩
abbrev main_call2_call0_call0_c_21 : Ref sig .tc := ⟨.hbm, 221, rfl⟩
abbrev main_call2_call0_call0_v84 : Ref sig .tc := ⟨.hbm, 222, rfl⟩
abbrev main_call2_call0_call0_v85 : Ref sig .tc := ⟨.hbm, 223, rfl⟩
abbrev main_call2_call0_call0_v86 : Ref sig .tc := ⟨.hbm, 224, rfl⟩
abbrev main_call2_call0_call0_v87 : Ref sig .tc := ⟨.hbm, 225, rfl⟩
abbrev main_call2_call0_call0_v88 : Ref sig .tc := ⟨.hbm, 226, rfl⟩
abbrev main_call2_call0_call0_c_22 : Ref sig .tc := ⟨.hbm, 227, rfl⟩
abbrev main_call2_call0_call0_v89 : Ref sig .tc := ⟨.hbm, 228, rfl⟩
abbrev main_call2_call0_call0_v90 : Ref sig .tc := ⟨.hbm, 229, rfl⟩
abbrev main_call2_call0_call0_c_23 : Ref sig .tc := ⟨.hbm, 230, rfl⟩
abbrev main_call2_call0_call0_v91 : Ref sig .tc := ⟨.hbm, 231, rfl⟩
abbrev main_call2_call0_call0_v92 : Ref sig .tc := ⟨.hbm, 232, rfl⟩
abbrev main_call2_call0_call0_v93 : Ref sig .tc := ⟨.hbm, 233, rfl⟩
abbrev main_call2_call0_call0_v94 : Ref sig .tc := ⟨.hbm, 234, rfl⟩
abbrev main_call2_call0_call0_v95 : Ref sig .tc := ⟨.hbm, 235, rfl⟩
abbrev main_call2_call0_call0_c_24 : Ref sig .tc := ⟨.hbm, 236, rfl⟩
abbrev main_call2_call0_call0_v96 : Ref sig .tc := ⟨.hbm, 237, rfl⟩
abbrev main_call2_call0_call0_v97 : Ref sig .tc := ⟨.hbm, 238, rfl⟩
abbrev main_call2_call0_call0_c_25 : Ref sig .tc := ⟨.hbm, 239, rfl⟩
abbrev main_call2_call0_call0_v98 : Ref sig .tc := ⟨.hbm, 240, rfl⟩
abbrev main_call2_call0_call0_v99 : Ref sig .tc := ⟨.hbm, 241, rfl⟩
abbrev main_call2_call0_call0_v100 : Ref sig .tc := ⟨.hbm, 242, rfl⟩
abbrev main_call2_call0_call0_v101 : Ref sig .tc := ⟨.hbm, 243, rfl⟩
abbrev main_call2_call0_call0_v102 : Ref sig .tc := ⟨.hbm, 244, rfl⟩
abbrev main_call2_call0_call0_v103 : Ref sig .tc := ⟨.hbm, 245, rfl⟩
abbrev main_call2_call0_call0_v104 : Ref sig .tc := ⟨.hbm, 246, rfl⟩
abbrev main_call2_call0_call0_v105 : Ref sig .tc := ⟨.hbm, 247, rfl⟩
abbrev main_call2_call0_call0_c_26 : Ref sig .tc := ⟨.hbm, 248, rfl⟩
abbrev main_call2_call0_call0_v106 : Ref sig .tc := ⟨.hbm, 249, rfl⟩
abbrev main_call2_call0_call0_v107 : Ref sig .tc := ⟨.hbm, 250, rfl⟩
abbrev main_call2_call0_call0_v108 : Ref sig .tc := ⟨.hbm, 251, rfl⟩
abbrev main_call2_call0_call0_c_27 : Ref sig .tc := ⟨.hbm, 252, rfl⟩
abbrev main_call2_call0_call0_v109 : Ref sig .tc := ⟨.hbm, 253, rfl⟩
abbrev main_call2_call0_call0_v110 : Ref sig .tc := ⟨.hbm, 254, rfl⟩
abbrev main_call2_call0_call0_c_28 : Ref sig .tc := ⟨.hbm, 255, rfl⟩
abbrev main_call2_call0_call0_v111 : Ref sig .tc := ⟨.hbm, 256, rfl⟩
abbrev main_call2_call0_call0_v112 : Ref sig .tc := ⟨.hbm, 257, rfl⟩
abbrev main_call2_call0_call0_v113 : Ref sig .tc := ⟨.hbm, 258, rfl⟩
abbrev main_call2_call0_call0_v114 : Ref sig .tc := ⟨.hbm, 259, rfl⟩
abbrev main_call2_call0_call0_v115 : Ref sig .tc := ⟨.hbm, 260, rfl⟩
abbrev main_call2_call0_call0_c_29 : Ref sig .tc := ⟨.hbm, 261, rfl⟩
abbrev main_call2_call0_call0_v116 : Ref sig .tc := ⟨.hbm, 262, rfl⟩
abbrev main_call2_call0_call0_v117 : Ref sig .tc := ⟨.hbm, 263, rfl⟩
abbrev main_call2_call0_call0_c_30 : Ref sig .tc := ⟨.hbm, 264, rfl⟩
abbrev main_call2_call0_call0_v118 : Ref sig .tc := ⟨.hbm, 265, rfl⟩
abbrev main_call2_call0_call0_v119 : Ref sig .tc := ⟨.hbm, 266, rfl⟩
abbrev main_call2_call0_call0_v120 : Ref sig .tc := ⟨.hbm, 267, rfl⟩
abbrev main_call2_call0_call0_v121 : Ref sig .tc := ⟨.hbm, 268, rfl⟩
abbrev main_call2_call0_call0_v122 : Ref sig .tc := ⟨.hbm, 269, rfl⟩
abbrev main_call2_call0_call0_c_31 : Ref sig .tc := ⟨.hbm, 270, rfl⟩
abbrev main_call2_call0_call0_v123 : Ref sig .tc := ⟨.hbm, 271, rfl⟩
abbrev main_call2_call0_call0_v124 : Ref sig .tc := ⟨.hbm, 272, rfl⟩
abbrev main_call2_call0_call0_c_32 : Ref sig .tc := ⟨.hbm, 273, rfl⟩
abbrev main_call2_call0_call0_v125 : Ref sig .tc := ⟨.hbm, 274, rfl⟩
abbrev main_call2_call0_call0_v126 : Ref sig .tc := ⟨.hbm, 275, rfl⟩
abbrev main_call2_call0_call0_v127 : Ref sig .tc := ⟨.hbm, 276, rfl⟩
abbrev main_call2_call0_call0_v128 : Ref sig .tc := ⟨.hbm, 277, rfl⟩
abbrev main_call2_call0_call0_v129 : Ref sig .tc := ⟨.hbm, 278, rfl⟩
abbrev main_call2_call0_call0_c_33 : Ref sig .tc := ⟨.hbm, 279, rfl⟩
abbrev main_call2_call0_call0_v130 : Ref sig .tc := ⟨.hbm, 280, rfl⟩
abbrev main_call2_call0_call0_v131 : Ref sig .tc := ⟨.hbm, 281, rfl⟩
abbrev main_call2_call0_call0_c_34 : Ref sig .tc := ⟨.hbm, 282, rfl⟩
abbrev main_call2_call0_call0_v132 : Ref sig .tc := ⟨.hbm, 283, rfl⟩
abbrev main_call2_call0_call0_v133 : Ref sig .tc := ⟨.hbm, 284, rfl⟩
abbrev main_call2_call0_call0_v134 : Ref sig .tc := ⟨.hbm, 285, rfl⟩
abbrev main_call2_call0_call0_v135 : Ref sig .tc := ⟨.hbm, 286, rfl⟩
abbrev main_call2_call0_call0_v136 : Ref sig .tc := ⟨.hbm, 287, rfl⟩
abbrev main_call2_call0_call0_v137 : Ref sig .tc := ⟨.hbm, 288, rfl⟩
abbrev main_call2_call0_call0_v138 : Ref sig .tc := ⟨.hbm, 289, rfl⟩
abbrev main_call2_call0_call0_v139 : Ref sig .tc := ⟨.hbm, 290, rfl⟩
abbrev main_call2_call0_call0_c_35 : Ref sig .tc := ⟨.hbm, 291, rfl⟩
abbrev main_call2_call0_call0_v140 : Ref sig .tc := ⟨.hbm, 292, rfl⟩
abbrev main_call2_call0_call0_v141 : Ref sig .tc := ⟨.hbm, 293, rfl⟩
abbrev main_call2_call0_call0_v142 : Ref sig .tc := ⟨.hbm, 294, rfl⟩
abbrev main_call2_call0_call0_c_36 : Ref sig .tc := ⟨.hbm, 295, rfl⟩
abbrev main_call2_call0_call0_v143 : Ref sig .tc := ⟨.hbm, 296, rfl⟩
abbrev main_call2_call0_call0_v144 : Ref sig .tc := ⟨.hbm, 297, rfl⟩
abbrev main_call2_call0_call0_c_37 : Ref sig .tc := ⟨.hbm, 298, rfl⟩
abbrev main_call2_call0_call0_v145 : Ref sig .tc := ⟨.hbm, 299, rfl⟩
abbrev main_call2_call0_call0_v146 : Ref sig .tc := ⟨.hbm, 300, rfl⟩
abbrev main_call2_call0_call0_v147 : Ref sig .tc := ⟨.hbm, 301, rfl⟩
abbrev main_call2_call0_call0_v148 : Ref sig .tc := ⟨.hbm, 302, rfl⟩
abbrev main_call2_call0_call0_v149 : Ref sig .tc := ⟨.hbm, 303, rfl⟩
abbrev main_call2_call0_call0_c_38 : Ref sig .tc := ⟨.hbm, 304, rfl⟩
abbrev main_call2_call0_call0_v150 : Ref sig .tc := ⟨.hbm, 305, rfl⟩
abbrev main_call2_call0_call0_v151 : Ref sig .tc := ⟨.hbm, 306, rfl⟩
abbrev main_call2_call0_call0_c_39 : Ref sig .tc := ⟨.hbm, 307, rfl⟩
abbrev main_call2_call0_call0_v152 : Ref sig .tc := ⟨.hbm, 308, rfl⟩
abbrev main_call2_call0_call0_v153 : Ref sig .tc := ⟨.hbm, 309, rfl⟩
abbrev main_call2_call0_call0_v154 : Ref sig .tc := ⟨.hbm, 310, rfl⟩
abbrev main_call2_call0_call0_v155 : Ref sig .tc := ⟨.hbm, 311, rfl⟩
abbrev main_call2_call0_call0_v156 : Ref sig .tc := ⟨.hbm, 312, rfl⟩
abbrev main_call2_call0_call0_c_40 : Ref sig .tc := ⟨.hbm, 313, rfl⟩
abbrev main_call2_call0_call0_v157 : Ref sig .tc := ⟨.hbm, 314, rfl⟩
abbrev main_call2_call0_call0_v158 : Ref sig .tc := ⟨.hbm, 315, rfl⟩
abbrev main_call2_call0_call0_c_41 : Ref sig .tc := ⟨.hbm, 316, rfl⟩
abbrev main_call2_call0_call0_v159 : Ref sig .tc := ⟨.hbm, 317, rfl⟩
abbrev main_call2_call0_call0_v160 : Ref sig .tc := ⟨.hbm, 318, rfl⟩
abbrev main_call2_call0_call0_v161 : Ref sig .tc := ⟨.hbm, 319, rfl⟩
abbrev main_call2_call0_call0_v162 : Ref sig .tc := ⟨.hbm, 320, rfl⟩
abbrev main_call2_call0_call0_v163 : Ref sig .tc := ⟨.hbm, 321, rfl⟩
abbrev main_call2_call0_call0_c_42 : Ref sig .tc := ⟨.hbm, 322, rfl⟩
abbrev main_call2_call0_call0_v164 : Ref sig .tc := ⟨.hbm, 323, rfl⟩
abbrev main_call2_call0_call0_v165 : Ref sig .tc := ⟨.hbm, 324, rfl⟩
abbrev main_call2_call0_call0_c_43 : Ref sig .tc := ⟨.hbm, 325, rfl⟩
abbrev main_call2_call0_call0_v166 : Ref sig .tc := ⟨.hbm, 326, rfl⟩
abbrev main_call2_call0_call0_v167 : Ref sig .tc := ⟨.hbm, 327, rfl⟩
abbrev main_call2_call0_call0_v168 : Ref sig .tc := ⟨.hbm, 328, rfl⟩
abbrev main_call2_call0_call0_v169 : Ref sig .tc := ⟨.hbm, 329, rfl⟩
abbrev main_call2_call0_call0_v170 : Ref sig .tc := ⟨.hbm, 330, rfl⟩
abbrev main_call2_call0_v18_0 : Ref sig .tc := ⟨.hbm, 331, rfl⟩
abbrev main_call2_call0_call0_v172 : Ref sig .tc := ⟨.hbm, 332, rfl⟩
abbrev main_call2_call0_call0_v173 : Ref sig .tc := ⟨.hbm, 333, rfl⟩
abbrev main_call2_call0_call0_c_44 : Ref sig .tc := ⟨.hbm, 334, rfl⟩
abbrev main_call2_call0_call0_v174 : Ref sig .tc := ⟨.hbm, 335, rfl⟩
abbrev main_call2_call0_v18_1 : Ref sig .tc := ⟨.hbm, 336, rfl⟩
abbrev main_call2_call0_v19 : Ref sig .tc := ⟨.hbm, 337, rfl⟩
abbrev main_call2_call0_c_2 : Ref sig .tc := ⟨.hbm, 338, rfl⟩
abbrev main_call2_call0_v20 : Ref sig .tc := ⟨.hbm, 339, rfl⟩
abbrev main_call2_call0_v21 : Ref sig .tc := ⟨.hbm, 340, rfl⟩
abbrev main_call2_call0_c_3 : Ref sig .tc := ⟨.hbm, 341, rfl⟩
abbrev main_call2_call0_v22 : Ref sig .tc := ⟨.hbm, 342, rfl⟩
abbrev main_call2_call0_v23 : Ref sig .tc := ⟨.hbm, 343, rfl⟩
abbrev main_call2_call0_v24 : Ref sig .tc := ⟨.hbm, 344, rfl⟩
abbrev main_call2_call0_cst : Ref sig .tc := ⟨.hbm, 345, rfl⟩
abbrev main_call2_call0_v25 : Ref sig .tc := ⟨.hbm, 346, rfl⟩
abbrev main_call2_call0_v26 : Ref sig .tc := ⟨.hbm, 347, rfl⟩
abbrev main_call2_call0_v27 : Ref sig .tc := ⟨.hbm, 348, rfl⟩
abbrev main_call2_call0_v28 : Ref sig .tc := ⟨.hbm, 349, rfl⟩
abbrev main_call2_call0_v29 : Ref sig .tc := ⟨.hbm, 350, rfl⟩
abbrev main_call2_call0_v30 : Ref sig .tc := ⟨.hbm, 351, rfl⟩
abbrev main_call2_call0_v31 : Ref sig .tc := ⟨.hbm, 352, rfl⟩
abbrev main_call2_call0_v32 : Ref sig .tc := ⟨.hbm, 353, rfl⟩
abbrev main_call2_v0 : Ref sig .tc := ⟨.hbm, 354, rfl⟩
abbrev main_call2_v1 : Ref sig .tc := ⟨.hbm, 355, rfl⟩
abbrev main_call2_v2 : Ref sig .tc := ⟨.hbm, 356, rfl⟩
abbrev main_call2_v3 : Ref sig .tc := ⟨.hbm, 357, rfl⟩
abbrev main_v53 : Ref sig .tc := ⟨.hbm, 358, rfl⟩
abbrev main_v54 : Ref sig .tc := ⟨.hbm, 359, rfl⟩
abbrev main_call3_v0 : Ref sig .tc := ⟨.hbm, 360, rfl⟩
abbrev main_call3_cst : Ref sig .tc := ⟨.hbm, 361, rfl⟩
abbrev main_call3_c : Ref sig .tc := ⟨.hbm, 362, rfl⟩
abbrev main_call3_v1_0 : Ref sig .tc := ⟨.hbm, 363, rfl⟩
abbrev main_v55 : Ref sig .tc := ⟨.hbm, 364, rfl⟩
abbrev main_call4_v0 : Ref sig .tc := ⟨.hbm, 365, rfl⟩
abbrev main_call4_v1 : Ref sig .tc := ⟨.hbm, 366, rfl⟩
abbrev main_call4_v2 : Ref sig .tc := ⟨.hbm, 367, rfl⟩
abbrev main_call4_v3 : Ref sig .tc := ⟨.hbm, 368, rfl⟩
abbrev main_call4_v4 : Ref sig .tc := ⟨.hbm, 369, rfl⟩
abbrev main_v56 : Ref sig .tc := ⟨.hbm, 370, rfl⟩

abbrev nD : Nat := 1
abbrev τ : Topo := Topo.v7x

variable {F : FTy → Type} [FloatOps F]
-- ==== Proof.KernelIdealBody.lean ====
/- One run of the idealized kernel's body, on any whole staging buffers. The body reads sixteen timesteps from the first
   operand, turns each into an index of the alpha table and reads the table there, so it takes that each index is inside
   the table (`TableIndices`); under that it runs to its end and leaves in each of its two output buffers the eight tiles
   it stored. -/
module

public import proofs.«01_k».proof.Proof.Gen.KernelIdeal.Skeleton
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table index the body computes of a timestep `t`: `t / 500` scaled back by 500, a half added, truncated. -/
def tableIndex (F : FTy → Type) [FloatOps F] (t : BitVec 32) : BitVec 32 :=
  Scalar.fptosi 32 (Scalar.addf (Scalar.mulf (Scalar.divf (Scalar.sitofp (F := F) .f32 t)
    (Scalar.ofBits .f32 0x43FA0000#32)) (Scalar.ofBits .f32 0x43FA0000#32)) (Scalar.ofBits .f32 0x3F000000#32))

/-- Every index computed of the sixteen timesteps names an entry of the table. -/
def TableIndices (x0 : Vec F S16x1 .i32) : Prop := ∀ i, (tableIndex F (x0 i)).toNat < 501

/-- An index below 501 names an entry of the table: the shape the body's assumptions have. -/
theorem entry_inb (v : BitVec 32) (h : v.toNat < 501) :
    ∀ a, (![v.toNat] : Fin 1 → Nat) a + S1.size a ≤ S501.size a := by
  intro a
  fin_cases a
  show v.toNat + 1 ≤ 501
  omega

set_option maxHeartbeats 4000000 in
/-- The run: from whole staging buffers — the inputs' at `x0` … `x3`, the outputs' at anything — the body reaches its end
    with the inputs as they were and each output buffer written with the pieces named here. -/
noncomputable def run (c : Dev nD)
    (arg0 : Memref sig .tc .smem S16x1 .i32) (harg0 : arg0.IsWhole) (arg1 : Memref sig .tc .smem S501 .f32) (harg1 : arg1.IsWhole)
    (arg2 : Memref sig .tc .vmem S1x16384 .i32) (harg2 : arg2.IsWhole) (arg3 : Memref sig .tc .vmem S4x16384 .f32) (harg3 : arg3.IsWhole)
    (arg4 : Memref sig .tc .vmem S4x16384 .f32) (harg4 : arg4.IsWhole) (arg5 : Memref sig .tc .vmem S4x16384 .f32) (harg5 : arg5.IsWhole)
    (x0 : Vec F S16x1 .i32) (x1 : Vec F S501 .f32) (x2 : Vec F S1x16384 .i32) (x3 : Vec F S4x16384 .f32)
    (hx : TableIndices x0) :
    Σ' (L4 : List (View.Piece (Elt F) S4x16384 .f32)), { L5 : List (View.Piece (Elt F) S4x16384 .f32) //
      ∀ (E : Set ℕ) (K : PUnit → sProp 𝕄),
        iprop(owns (c : Thread nD τ) arg0 fullShare x0 ∗ owns (c : Thread nD τ) arg1 fullShare x1
            ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1
                ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E
              (cc0__fused_kernel arg0 harg0 arg1 harg1 arg2 harg2 arg3 harg3 arg4 harg4 arg5 harg5) K } := by
  have hread : ∀ (r : LoadRect S16x1) (i), (tableIndex F (arg0.view.readAt (Elt F) r (harg0.unread x0) i)).toNat < 501 :=
    fun r i => by rw [View.readAt_apply, harg0.read_unread]; exact hx _
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg0.eq_unread hf0; obtain rfl := harg1.eq_unread hf1
    obtain rfl := harg2.eq_unread hf2; obtain rfl := harg3.eq_unread hf3
    sl_exec_parts! (disch := exact entry_inb _ (hread _ _))
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.KernelIdeal.Body

end
-- ==== Proof.KernelIdealLaunch.lean ====
/- The launch of the idealized kernel: from the body's run (`Body.run`), what each output buffer holds after the one grid
   point, the pipeline's proof data, the body obligation, and the run of the whole program — it ends, its arguments are as
   they were, every semaphore is at zero, and the two result arrays hold what the body's stores left. All of it under
   `Indices`: the indices computed of the sixteen timesteps name entries of the table. -/
module

public import proofs.«01_k».proof.Proof.KernelIdealBody
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the one point, every index computed of the timesteps' block names an entry of the table. -/
def Indices : Prop := ∀ (c : Dev nD) (t : Fin cfg0.N), TableIndices (F := F) (iblk m c 0 t)

/-- The staging buffer of window `w` at the point, as the pipeline hands it to the body. -/
abbrev stg0 (t : Fin cfg0.N) : Memref sig .tc .smem S16x1 .i32 := win0_0.stage (cfg0.slots t 0)
abbrev stg1 (t : Fin cfg0.N) : Memref sig .tc .smem S501 .f32 := win0_1.stage (cfg0.slots t 1)
abbrev stg2 (t : Fin cfg0.N) : Memref sig .tc .vmem S1x16384 .i32 := win0_2.stage (cfg0.slots t 2)
abbrev stg3 (t : Fin cfg0.N) : Memref sig .tc .vmem S4x16384 .f32 := win0_3.stage (cfg0.slots t 3)
abbrev stg4 (t : Fin cfg0.N) : Memref sig .tc .vmem S4x16384 .f32 := win0_4.stage (cfg0.slots t 4)
abbrev stg5 (t : Fin cfg0.N) : Memref sig .tc .vmem S4x16384 .f32 := win0_5.stage (cfg0.slots t 5)

variable {m}

/-- The body's run at the point. -/
def runAt (hH : Indices m) (c : Dev nD) (t : Fin cfg0.N) :=
  run c (stg0 t) (hstage0_0 0) (stg1 t) (hstage0_1 0) (stg2 t) (hstage0_2 0) (stg3 t) (hstage0_3 0) (stg4 t) (hstage0_4 0)
    (stg5 t) (hstage0_5 0) (iblk m c 0 t) (iblk m c 1 t) (iblk m c 2 t) (iblk m c 3 t) (hH c t)

/-- The run's eight stores into the first output tile its buffer. -/
theorem cover4 (hH : Indices m) (c : Dev nD) (t : Fin cfg0.N) (y : S4x16384.Idx) :
    ∃ pc ∈ (runAt hH c t).1, y ∈ pc.1.set :=
  View.cover_of_tiledL (runAt hH c t).1 S4x2048.size (by sl_kernel_rfl) y

/-- The run's eight stores into the second output tile its buffer. -/
theorem cover5 (hH : Indices m) (c : Dev nD) (t : Fin cfg0.N) (y : S4x16384.Idx) :
    ∃ pc ∈ (runAt hH c t).2.1, y ∈ pc.1.set :=
  View.cover_of_tiledL (runAt hH c t).2.1 S4x2048.size (by sl_kernel_rfl) y

/-- What the run leaves in the first output's buffer: its pieces, read back. -/
def out4 (hH : Indices m) (c : Dev nD) (t : Fin cfg0.N) : Vec F S4x16384 .f32 :=
  (stg4 t).view.read (Elt F) ((stg4 t).view.writes (Elt F) (stg4 t).view.junk (runAt hH c t).1)

/-- What the run leaves in the second output's buffer. -/
def out5 (hH : Indices m) (c : Dev nD) (t : Fin cfg0.N) : Vec F S4x16384 .f32 :=
  (stg5 t).view.read (Elt F) ((stg5 t).view.writes (Elt F) (stg5 t).view.junk (runAt hH c t).2.1)

/-- The proof data: the arrays as the region finds them; after the body each input's buffer at its block, each output's at
    what the run leaves; the scoped rest and the generator register pass through; nothing owed. -/
def dats (hH : Indices m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 hH c t
    | ⟨5, _⟩ => out5 hH c t
  Φ _ := Pipeline.ΦA spec0 c
  q _ := fullShare
  owed _ := 0

theorem arrays (hH : Indices m) (c : Dev nD) (w : Fin cfg0.W) : (dats hH 0 c).A w = V m c (Pipeline.arrRef spec0 w) := by
  dsimp only [dats]

theorem after_in0 (hH : Indices m) (c : Dev nD) (t : Fin cfg0.N) : (dats hH 0 c).after 0 t = iblk m c 0 t := by dsimp only [dats]
theorem after_in1 (hH : Indices m) (c : Dev nD) (t : Fin cfg0.N) : (dats hH 0 c).after 1 t = iblk m c 1 t := by dsimp only [dats]
theorem after_in2 (hH : Indices m) (c : Dev nD) (t : Fin cfg0.N) : (dats hH 0 c).after 2 t = iblk m c 2 t := by dsimp only [dats]
theorem after_in3 (hH : Indices m) (c : Dev nD) (t : Fin cfg0.N) : (dats hH 0 c).after 3 t = iblk m c 3 t := by dsimp only [dats]
theorem after_out4 (hH : Indices m) (c : Dev nD) (t : Fin cfg0.N) : (dats hH 0 c).after 4 t = out4 hH c t := by dsimp only [dats]
theorem after_out5 (hH : Indices m) (c : Dev nD) (t : Fin cfg0.N) : (dats hH 0 c).after 5 t = out5 hH c t := by dsimp only [dats]

theorem before_in0 (hH : Indices m) (c : Dev nD) (t : Fin cfg0.N) (d) : (dats hH 0 c).before 0 t d = iblk m c 0 t :=
  before0_0_of m (dats hH 0 c) (arrays hH c 0) (after_in0 hH c) t d
theorem before_in1 (hH : Indices m) (c : Dev nD) (t : Fin cfg0.N) (d) : (dats hH 0 c).before 1 t d = iblk m c 1 t :=
  before0_1_of m (dats hH 0 c) (arrays hH c 1) (after_in1 hH c) t d
theorem before_in2 (hH : Indices m) (c : Dev nD) (t : Fin cfg0.N) (d) : (dats hH 0 c).before 2 t d = iblk m c 2 t :=
  before0_2_of m (dats hH 0 c) (arrays hH c 2) (after_in2 hH c) t d
theorem before_in3 (hH : Indices m) (c : Dev nD) (t : Fin cfg0.N) (d) : (dats hH 0 c).before 3 t d = iblk m c 3 t :=
  before0_3_of m (dats hH 0 c) (arrays hH c 3) (after_in3 hH c) t d

/-- What the body is called with at the point, window by window. -/
def pre (hH : Indices m) (c : Dev nD) (t : Fin cfg0.N) : sProp 𝕄 :=
  iprop((dats hH 0 c).Φ t.castSucc ∗ (dats hH 0 c).owesAt () t.castSucc
    ∗ (∃ d, owns (c : Thread nD τ) (stg0 t) fullShare ((dats hH 0 c).before 0 t d))
    ∗ (∃ d, owns (c : Thread nD τ) (stg1 t) fullShare ((dats hH 0 c).before 1 t d))
    ∗ (∃ d, owns (c : Thread nD τ) (stg2 t) fullShare ((dats hH 0 c).before 2 t d))
    ∗ (∃ d, owns (c : Thread nD τ) (stg3 t) fullShare ((dats hH 0 c).before 3 t d))
    ∗ (∃ d, owns (c : Thread nD τ) (stg4 t) fullShare ((dats hH 0 c).before 4 t d))
    ∗ (∃ d, owns (c : Thread nD τ) (stg5 t) fullShare ((dats hH 0 c).before 5 t d)))

/-- What it gives back. -/
def post (hH : Indices m) (c : Dev nD) (t : Fin cfg0.N) : sProp 𝕄 :=
  iprop((dats hH 0 c).Φ t.succ ∗ (dats hH 0 c).owesAt () t.succ
    ∗ owns (c : Thread nD τ) (stg0 t) fullShare ((dats hH 0 c).after 0 t)
    ∗ owns (c : Thread nD τ) (stg1 t) fullShare ((dats hH 0 c).after 1 t)
    ∗ owns (c : Thread nD τ) (stg2 t) fullShare ((dats hH 0 c).after 2 t)
    ∗ owns (c : Thread nD τ) (stg3 t) fullShare ((dats hH 0 c).after 3 t)
    ∗ owns (c : Thread nD τ) (stg4 t) fullShare ((dats hH 0 c).after 4 t)
    ∗ owns (c : Thread nD τ) (stg5 t) fullShare ((dats hH 0 c).after 5 t))

set_option maxHeartbeats 1600000 in
/-- The body at the point, by its run: the inputs' buffers hold their blocks, and each output's pieces cover its buffer. -/
theorem body_at (hH : Indices m) (c : Dev nD) (t : Fin cfg0.N) :
    pre hH c t ⊢ wp frame (wpE (defs₀ (F := F)) Variants.none c none) Set.univ (bodyAt0 t) (fun _ => post hH c t) := by
  unfold pre post bodyAt0
  simp only [before_in0, before_in1, before_in2, before_in3]
  rw [show (dats hH 0 c).Φ t.succ = (dats hH 0 c).Φ t.castSucc from rfl,
    show (dats hH 0 c).owesAt () t.succ = (dats hH 0 c).owesAt () t.castSucc from rfl,
    after_in0, after_in1, after_in2, after_in3, after_out4, after_out5]
  iintro ⟨HΦ, Ho, ⟨%d0, H0⟩, ⟨%d1, H1⟩, ⟨%d2, H2⟩, ⟨%d3, H3⟩, ⟨%d4, H4⟩, ⟨%d5, H5⟩⟩
  iapply (runAt hH c t).2.2 Set.univ _
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 hH c t)
  unfold owns; iexists _; isplitr
  swap; · iexact H5
  ipureintro; exact View.read_writes_of_cover _ _ _ _ _ (cover5 hH c t)

/-- The body obligation of the pipeline. -/
theorem obligation (hH : Indices m) (c : Dev nD) :
    BodyObligation (dats (F := F) hH 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at hH c t) rfl .rfl fun _ => .rfl

-- the implicit arguments of the launch theorem are found through plain definitions in a metavariable's type
set_option backward.isDefEq.respectTransparency.types false in
set_option maxHeartbeats 1600000 in
/-- The launch: every execution ends, with the arrays as the proof data say, the later host lines run, and every semaphore
    counter at zero. -/
theorem launched (hH : Indices m) : θ_run defs (onTc (τ := τ) (main (F := F))) (s₀ m ρ)
    (fun r => (Pipeline.FramePost cfgs (dats hH) 0 (Pipeline.afterTail₀ cfgs (dats hH) 0 (V0 m) [hostOps1])) r
      ∧ r.2.sem = fun _ => 0) :=
  Pipeline.θ_run_frame_around (Q' := _) cfgs (dats hH) (0 : Fin 1) launch0 defs₀ Variants.none m ρ main
    (hbody := fun c => (obligation hH c).loose) (hshare := fun c => (dats hH 0 c).share_full fun _ => rfl)
    (howed := fun _ _ => rfl) (V₀ := V0 m) (opss := [hostOps1]) (hsub := sfx_sub) (hfresh := sfx_fresh) (hkeep := sfx_keeps)
    (hmain := hmain m Variants.none) (hA := arrays hH) (hΦ := fun _ _ => rfl)

/-- The program ends with its arguments unchanged and every semaphore at zero. -/
theorem frame (hH : Indices m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats hH) (arrays hH) ((θ_run defs _ _).mono (fun _ h => h.1) (launched ρ hH)))
    ((θ_run defs _ _).mono (fun _ h => h.2) (launched ρ hH))

end Cert.KernelIdeal.Body

end
-- ==== Proof.Range.lean ====
/- What the precondition says of the two integer arguments: every graph number is below 16, every timestep at most 500. -/
module

public import proofs.«01_k».proof.Defs

@[expose] public section

noncomputable section

namespace Cert.Range

open Idealize.ShloMosaic Cert.Pre_in_range

/-- The predicate's shape facts. -/
instance facts : Cert.Pre_in_range.Facts where
  bcast_S_S16384 := by decide
  bcast_S_S16x1 := by decide

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

variable {F : FTy → Type} [FloatOps F]

/-- Where the predicate holds, a graph number is below 16. -/
theorem graph_lt (x : FVec F S16384x4 .f32) (b : IVec S16384 32) (t : IVec S16x1 32)
    (h : (fn x b t).1 = fun _ => 1#1) (i : S16384.Idx) : (b i).toNat < 16 := by
  have e := congrFun h i
  simp only [fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- Where the predicate holds, a timestep is at most 500. -/
theorem step_le (x : FVec F S16384x4 .f32) (b : IVec S16384 32) (t : IVec S16x1 32)
    (h : (fn x b t).2 = fun _ => 1#1) (i : S16x1.Idx) : (t i).toNat ≤ 500 := by
  have e := congrFun h i
  simp only [fn, andi, cmpi, broadcastInDim, constantI, IntOp.cmpi, andi_ofBool, ofBool_eq_one, Bool.and_eq_true] at e
  obtain ⟨hge, hlt⟩ := e
  simp only [BitVec.sle, decide_eq_true_eq, BitVec.toInt, BitVec.toNat_ofNat] at hge hlt
  omega

end Cert.Range

end
-- ==== Proof.Consts.lean ====
/- The float constants the two programs spell, as the extended reals their patterns denote. -/
module

public import Idealize.ShloMosaic.PureOps.Ideal

@[expose] public section

noncomputable section

namespace Cert.Consts

open Idealize.ShloMosaic

/-- `500.0`. -/
theorem ofBits_500 : Ideal.ofBits .f32 0x43FA0000#32 = ((500 : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- `0.25`. -/
theorem ofBits_quarter : Ideal.ofBits .f32 0x3E800000#32 = ((1 / 4 : ℝ) : EReal) := by
  simp [Ideal.ofBits, Ideal.ieee, -EReal.coe_mul]; norm_num

/-- `4.0`. -/
theorem ofBits_four : Ideal.ofBits .f32 0x40800000#32 = ((4 : ℝ) : EReal) := by
  simp [Ideal.ofBits, Ideal.ieee, -EReal.coe_mul]; norm_num

/-- `1.0`. -/
theorem ofBits_one : Ideal.ofBits .f32 0x3F800000#32 = 1 := by
  simp [Ideal.ofBits, Ideal.ieee, -EReal.coe_mul]; norm_num

/-- `0.0`. -/
theorem ofBits_zero : Ideal.ofBits .f32 0x00000000#32 = 0 := by
  simp [Ideal.ofBits, Ideal.ieee, -EReal.coe_mul]

/-- The pattern of minus infinity. -/
theorem ofBits_neg_inf : Ideal.ofBits .f32 0xFF800000#32 = ⊥ := by
  simp [Ideal.ofBits, Ideal.ieee]

end Cert.Consts

end
-- ==== Proof.KernelIdealRange.lean ====
/- The idealized kernel's table index of a timestep IS the timestep, for every timestep the precondition admits: `t / 500`
   scaled back by 500 is `t`, and a half more truncates to `t`. -/
module

public import proofs.«01_k».proof.Proof.KernelIdealLaunch
public import proofs.«01_k».proof.Proof.Range
public import proofs.«01_k».proof.Proof.Consts

@[expose] public section

set_option maxRecDepth 16384

noncomputable section

namespace Cert.KernelIdeal.Body

open Cert.KernelIdeal Cert.KernelIdeal.Gen
open Idealize Idealize.ShloMosaic Idealize.ShloMosaic.TcCoe

/-- The index of a timestep from 0 to 500 is the timestep. -/
theorem index_eq (t : BitVec 32) (h : t.toNat ≤ 500) : tableIndex Ideal t = t := by
  have hi : t.toInt = (t.toNat : ℤ) := by rw [BitVec.toInt_eq_toNat_cond, if_pos (by omega)]
  have hf : ⌊((t.toNat : ℝ) + 1 / 2)⌋ = (t.toNat : ℤ) := by
    rw [Int.floor_eq_iff]; constructor <;> push_cast <;> linarith
  have e : (((t.toInt : ℝ) : EReal) * ((1 / 500 : ℝ) : EReal) * ((500 : ℝ) : EReal) + ((1 / 2 : ℝ) : EReal))
      = (((t.toNat : ℝ) + 1 / 2 : ℝ) : EReal) := by
    rw [← EReal.coe_mul, ← EReal.coe_mul, ← EReal.coe_add, hi]
    congr 1
    push_cast
    ring
  have hp : (0 : ℝ) ≤ (t.toNat : ℝ) + 1 / 2 := by positivity
  unfold tableIndex
  simp only [Ideal.scalar_fptosi_def, Ideal.scalar_addf_def, Ideal.scalar_mulf_def, Ideal.scalar_divf_def, Ideal.scalar_sitofp_def,
    Ideal.ofBits_def, Cert.Consts.ofBits_500, Cert.Consts.ofBits_half]
  rw [Ideal.div_coe (by norm_num), e]
  unfold Ideal.fptosi
  rw [Ideal.toIntClamped_coe, if_pos hp, hf]
  have : max (-((2 ^ (32 - 1) : ℕ) : ℤ)) (min (((2 ^ (32 - 1) : ℕ) : ℤ) - 1) (t.toNat : ℤ)) = (t.toNat : ℤ) := by
    norm_num; omega
  rw [this]
  simp

/-- Under the precondition the timesteps' block holds words of at most 500. -/
theorem block_le (m : (ℓ : Loc nD τ sig) → Buf (Elt Ideal) ℓ) (h : Cert.Pre_KernelIdeal m) (c : Dev nD) (t : Fin cfg0.N)
    (i : S16x1.Idx) : (iblk m c 0 t i : BitVec 32).toNat ≤ 500 := by
  unfold iblk
  rw [View.read_apply, cast_eq]
  exact (congrArg BitVec.toNat (congrFun (V_main_arg2 m c) _)).trans_le (Cert.Range.step_le _ _ _ (h c).2 _)

/-- Under the precondition the body's indices are inside the table. -/
theorem indices_of_pre (m : (ℓ : Loc nD τ sig) → Buf (Elt Ideal) ℓ) (h : Cert.Pre_KernelIdeal m) : Indices m := by
  intro c t i
  have hw := block_le m h c t i
  rw [index_eq _ hw]
  omega

end Cert.KernelIdeal.Body

end
-- ==== Proof.ReferenceOps.lean ====
/- The reference is a straight line of host operations: the list of them, read off the printed program. -/
module

public import proofs.«01_k».proof.Proof.Gen.ReferenceIdeal
public import Idealize.ShloMosaic.Lib.StableHlo.RunHlo
public import Idealize.ShloMosaic.Lib.Claim

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem

variable {F : FTy → Type} [FloatOps F]

/-- `p` runs the operations `l` in a straight line; each touches the core's buffers only and allocates nothing. -/
structure Runs {Λ : Labels} (p : Prog (TpuEff nD τ sig (Elt F) Λ .tc) PUnit) (l : List (HloOp τ sig (Elt F))) : Prop where
  seq : StableHlo.IsSeq (nD := nD) p l
  bufs : l.Forall fun op => op.bufs ⊆ StableHlo.tcRefs τ sig
  fresh : ∀ op ∈ l, op.fresh = ∅

namespace Runs

variable {Λ : Labels}

/-- The return runs no operation. -/
theorem nil : Runs (Λ := Λ) (pure ⟨⟩ : Prog (TpuEff nD τ sig (Elt F) Λ .tc) PUnit) [] :=
  ⟨StableHlo.IsSeq.nil, trivial, fun _ h => absurd h List.not_mem_nil⟩

/-- One operation, then the rest. -/
theorem cons {op : HloOp τ sig (Elt F)} {k : Prog (TpuEff nD τ sig (Elt F) Λ .tc) PUnit} {l : List (HloOp τ sig (Elt F))}
    (hb : op.bufs ⊆ StableHlo.tcRefs τ sig) (hf : op.fresh = ∅) (h : Runs k l) :
    Runs ((hlo rfl op fun _ => .ret (⟨⟩ : PUnit)) >>= fun _ => k) (op :: l) :=
  ⟨h.seq.cons, (List.forall_cons _ _ _).2 ⟨hb, h.bufs⟩, List.forall_mem_cons.2 ⟨hf, h.fresh⟩⟩

/-- One operation alone. -/
theorem one {op : HloOp τ sig (Elt F)} (hb : op.bufs ⊆ StableHlo.tcRefs τ sig) (hf : op.fresh = ∅) :
    Runs (Λ := Λ) (hlo rfl op fun _ => .ret (⟨⟩ : PUnit)) [op] :=
  ⟨rfl, (List.forall_cons _ _ _).2 ⟨hb, trivial⟩, List.forall_mem_cons.2 ⟨hf, fun _ h => absurd h List.not_mem_nil⟩⟩

/-- Two straight lines run one after the other run both lists. -/
theorem append {p q : Prog (TpuEff nD τ sig (Elt F) Λ .tc) PUnit} {l l' : List (HloOp τ sig (Elt F))}
    (h : Runs p l) (h' : Runs q l') : Runs (p >>= fun _ => q) (l ++ l') := by
  refine ⟨?_, List.forall_append.2 ⟨h.bufs, h'.bufs⟩, List.forall_mem_append.2 ⟨h.fresh, h'.fresh⟩⟩
  have e := h.seq
  have e' := h'.seq
  unfold StableHlo.IsSeq at e e' ⊢
  subst e e'
  clear h h'
  induction l with
  | nil => rfl
  | cons op l ih =>
    have e := StableHlo.IsSeq.cons (nD := nD) (Λ := Λ) (op := op) ih
    unfold StableHlo.IsSeq at e
    exact e

end Runs

set_option maxHeartbeats 400000 in
/-- The reference's operations, in order, with the proof that the program is the line of them. -/
def line : Σ' ops : List (HloOp τ sig (Elt F)), ∀ d, Runs (main (F := F) d) ops := by
  apply PSigma.mk
  · intro d
    unfold main main_part0 main_part1
    repeat (first
      | with_reducible apply Runs.cons
      | with_reducible exact StableHlo.unary_bufs_sub ..
      | with_reducible exact StableHlo.nullary_bufs_sub ..
      | with_reducible exact StableHlo.binary_bufs_sub ..
      | with_reducible exact StableHlo.ternary_bufs_sub ..
      | with_reducible exact StableHlo.reshape_bufs_sub ..
      | with_reducible exact StableHlo.quaternary_bufs_sub ..
      | exact rfl
      | with_reducible exact Runs.nil
      | with_reducible apply Runs.one
      | with_reducible apply Runs.append
      | unfold fn_round.body | unfold fn_take.body | unfold fn_where.body | unfold fn_gumbel.body | unfold fn_uniform.body
      | unfold fn_threefry2x32.body
      | unfold fn_threefry2x32.body_part0 | unfold fn_threefry2x32.body_part1
      | unfold fn_threefry2x32.body_part2 | unfold fn_threefry2x32.body_part3
      | unfold fn_argmax.body | unfold fn_one_hot.body)

/-- The operations. -/
def ops : List (HloOp τ sig (Elt F)) := line.1

end Cert.ReferenceIdeal.Line

end
-- ==== Proof.ReferenceRun.lean ====
/- The reference's run: it ends with every buffer at what the line of its operations leaves there, its arguments unchanged,
   and no semaphore to count. -/
module

public import proofs.«01_k».proof.Proof.ReferenceOps
public import Idealize.ShloMosaic.Lib.Quiescent
public import Idealize.ShloMosaic.Lib.StableHlo.ReadAt

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

/-- A device. -/
abbrev c₀ : Dev nD := ⟨0, by decide⟩

variable {F : FTy → Type} [FloatOps F]

/-- What the buffers hold at the end: the line of operations from the launch contents. -/
abbrev final (m : (ℓ : Loc nD τ sig) → Buf (Elt F) ℓ) (c : Dev nD) : Valuation τ sig (Elt F) := after ops (launchContents m c)

set_option maxHeartbeats 4000000 in
/-- The run ends with every buffer at the line's contents. -/
theorem ran (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = final m c (Proc.devRef .tc b) :=
  run_hlo defs main (fun c => (line.2 c).seq) (by decide) (by decide) (line.2 c₀).bufs (line.2 c₀).fresh m ρ

/-- The line writes no argument. -/
theorem kept0 (V : Valuation τ sig (Elt F)) : after ops V (Proc.devRef .tc main_arg0) = V (Proc.devRef .tc main_arg0) := by after_reads_simp
theorem kept1 (V : Valuation τ sig (Elt F)) : after ops V (Proc.devRef .tc main_arg1) = V (Proc.devRef .tc main_arg1) := by after_reads_simp
theorem kept2 (V : Valuation τ sig (Elt F)) : after ops V (Proc.devRef .tc main_arg2) = V (Proc.devRef .tc main_arg2) := by after_reads_simp

/-- The program ends with its arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (ran m ρ) fun r h =>
    ⟨fun c => ⟨(h c main_arg0).trans (kept0 _), (h c main_arg1).trans (kept1 _), (h c main_arg2).trans (kept2 _)⟩,
      sem_eq_zero_of_no_sems (by decide) r.2⟩

end Cert.ReferenceIdeal.Line

end
-- ==== Proof.Frames.lean ====
/- The claims without values: each program ends with its arguments unchanged and every semaphore at zero. -/
module

public import proofs.«01_k».proof.Defs
public import proofs.«01_k».proof.Proof.KernelIdealRange
public import proofs.«01_k».proof.Proof.ReferenceRun

@[expose] public section

noncomputable section

namespace Cert.Frames

open Idealize Idealize.ShloMosaic

/-- The kernel over the extended reals. -/
theorem kernelIdeal : Cert.quiescent_KernelIdeal := fun m g h =>
  Cert.KernelIdeal.Body.frame g (Cert.KernelIdeal.Body.indices_of_pre m h)

/-- The reference over the extended reals. -/
theorem referenceIdeal : Cert.quiescent_ReferenceIdeal := fun m g _ => Cert.ReferenceIdeal.Line.frame m g

/-- The reference under the precondition, which it does not need. -/
theorem referenceIdeal_in_range : Cert.quiescent_ReferenceIdeal_pre_in_range := fun m g _ =>
  Cert.ReferenceIdeal.Line.frame m g

end Cert.Frames

end
-- ==== Proof.Threefry.lean ====
/- The random words of the noise: the twenty-round counter mixing, on one pair of 32-bit words. Both programs compute
   it — the kernel on vectors of counters, the reference on a whole array of them —, and both are read as this. -/
module

public import Idealize.ShloMosaic.Lib.KernelVsHost

@[expose] public section

noncomputable section

namespace Cert.Threefry

open Idealize Idealize.ShloMosaic

/-- A word rotated left by `a`, where `a + b = 32`. -/
def rotate (a b x : BitVec 32) : BitVec 32 := IntOp.ori (IntOp.shli .vector x a) (IntOp.shrui .vector x b)

/-- One round: the first word becomes the sum, the second its rotation combined with the sum. -/
def round (a b : BitVec 32) (p : BitVec 32 × BitVec 32) : BitVec 32 × BitVec 32 :=
  (IntOp.addi p.1 p.2, IntOp.xori (IntOp.addi p.1 p.2) (rotate a b p.2))

/-- The four rounds of the odd groups. -/
def roundsA (p : BitVec 32 × BitVec 32) : BitVec 32 × BitVec 32 :=
  round 6#32 26#32 (round 26#32 6#32 (round 15#32 17#32 (round 13#32 19#32 p)))

/-- The four rounds of the even groups. -/
def roundsB (p : BitVec 32 × BitVec 32) : BitVec 32 × BitVec 32 :=
  round 24#32 8#32 (round 16#32 16#32 (round 29#32 3#32 (round 17#32 15#32 p)))

/-- A key added: one word to each. -/
def inject (u v : BitVec 32) (p : BitVec 32 × BitVec 32) : BitVec 32 × BitVec 32 := (IntOp.addi p.1 u, IntOp.addi p.2 v)

/-- The pair of words the counter `n` is mixed to under the key (0, 1). -/
def mixed (n : BitVec 32) : BitVec 32 × BitVec 32 :=
  inject 466688987#32 5#32 (roundsA (inject 1#32 466688991#32 (roundsB (inject 0#32 4#32 (roundsA
    (inject 466688987#32 2#32 (roundsB (inject 1#32 466688988#32 (roundsA (inject 0#32 1#32 (0#32, n)))))))))))

/-- The random word of the counter `n`. -/
def draw (n : BitVec 32) : BitVec 32 := IntOp.xori (mixed n).1 (mixed n).2

end Cert.Threefry

end
-- ==== Proof.Pair.lean ====
/- What the kernel computes of one pair of tiles, as functions of what it loads: the body does this four times over, at
   four offsets. A pair is held as eight rows of 2048 lanes: the four classes of the first tile, then those of the
   second. -/
module

public import proofs.«01_k».proof.Proof.Threefry
public import proofs.«01_k».proof.Proof.Gen.KernelIdeal.Skeleton

@[expose] public section

set_option maxRecDepth 16384

noncomputable section

namespace Cert.KernelIdeal.Pair

open Cert.KernelIdeal Cert.KernelIdeal.Gen
open Idealize Idealize.ShloMosaic Idealize.SL.Sem

variable {F : FTy → Type} [FloatOps F]

/-- A word in every lane. -/
abbrev all (b : BitVec 32) : IVec S8x2048 32 := broadcast S8x2048 b

/-- A float literal in every lane. -/
abbrev lit (F : FTy → Type) [FloatOps F] (w : BitVec 32) : FVec F S8x2048 .f32 := broadcast S8x2048 (FloatOps.ofBits .f32 w)

/-- The class of each row: the row modulo four. -/
def cls : IVec S8x2048 32 := andi (iota .tc S8x2048 32 [0] iota_S8x2048_d0_w32) (all 3#32)

/-- The counter of each lane, from the pair's first counter `o`. -/
def counters (o : BitVec 32) : IVec S8x2048 32 :=
  addi (addi (addi (all o) (muli (all 4#32) (iota .tc S8x2048 32 [1] iota_S8x2048_d1_w32))) cls)
    (select (cmpi .sge (iota .tc S8x2048 32 [0] iota_S8x2048_d0_w32) (all 4#32)) (all 8192#32) (all 0#32))

/-- Two vectors of words, mixed together. -/
abbrev Two := IVec S8x2048 32 × IVec S8x2048 32

def round (a b : BitVec 32) (p : Two) : Two :=
  (addi p.1 p.2, xori (addi p.1 p.2) (ori (shli p.2 (all a)) (shrui p.2 (all b))))

def roundsA (p : Two) : Two := round 6#32 26#32 (round 26#32 6#32 (round 15#32 17#32 (round 13#32 19#32 p)))

def roundsB (p : Two) : Two := round 24#32 8#32 (round 16#32 16#32 (round 29#32 3#32 (round 17#32 15#32 p)))

def inject (u v : BitVec 32) (p : Two) : Two := (addi p.1 (all u), addi p.2 (all v))

def mixed (n : IVec S8x2048 32) : Two :=
  inject 466688987#32 5#32 (roundsA (inject 1#32 466688991#32 (roundsB (inject 0#32 4#32 (roundsA
    (inject 466688987#32 2#32 (roundsB (inject 1#32 466688988#32 (roundsA (inject 0#32 1#32 (all 0#32, n)))))))))))

/-- The random words of a vector of counters. -/
def draw (n : IVec S8x2048 32) : IVec S8x2048 32 := xori (mixed n).1 (mixed n).2

/-- The Gumbel noise of a vector of random words: a uniform number from the word's upper 23 bits, its logarithm twice. -/
def gumbel (w : IVec S8x2048 32) : FVec F S8x2048 .f32 :=
  subf (lit F 0#32) (log (subf (lit F 0#32) (log (maximumf (lit F 8388608#32)
    (addf (mulf (subf (bitcastToFloat .f32 (ori (shrui w (all 9#32)) (all 1065353216#32))) (lit F 1065353216#32))
      (broadcast S8x2048 (Scalar.subf (FloatOps.ofBits .f32 1065353216#32) (FloatOps.ofBits .f32 8388608#32))))
      (lit F 8388608#32))))))

/-- A pair's classes turned by one, two, three within each tile: row `c` reads row `c + d` modulo four. -/
def turn1 (v : FVec F S8x2048 .f32) : FVec F S8x2048 .f32 :=
  select (cmpi .slt cls (all 3#32))
    (concatenate S8x2048 0 [⟨S7x2048, extractStridedSlice S7x2048 ![1, 0] v slices_S8x2048_o1_0_S7x2048⟩,
      ⟨S1x2048, extractStridedSlice S1x2048 ![0, 0] v slices_S8x2048_o0_0_S1x2048⟩] concatenates_S7x2048_S1x2048_S8x2048_d0)
    (concatenate S8x2048 0 [⟨S3x2048, extractStridedSlice S3x2048 ![5, 0] v slices_S8x2048_o5_0_S3x2048⟩,
      ⟨S5x2048, extractStridedSlice S5x2048 ![0, 0] v slices_S8x2048_o0_0_S5x2048⟩] concatenates_S3x2048_S5x2048_S8x2048_d0)

def turn2 (v : FVec F S8x2048 .f32) : FVec F S8x2048 .f32 :=
  select (cmpi .slt cls (all 2#32))
    (concatenate S8x2048 0 [⟨S6x2048, extractStridedSlice S6x2048 ![2, 0] v slices_S8x2048_o2_0_S6x2048⟩,
      ⟨S2x2048, extractStridedSlice S2x2048 ![0, 0] v slices_S8x2048_o0_0_S2x2048⟩] concatenates_S6x2048_S2x2048_S8x2048_d0)
    (concatenate S8x2048 0 [⟨S2x2048, extractStridedSlice S2x2048 ![6, 0] v slices_S8x2048_o6_0_S2x2048⟩,
      ⟨S6x2048, extractStridedSlice S6x2048 ![0, 0] v slices_S8x2048_o0_0_S6x2048⟩] concatenates_S2x2048_S6x2048_S8x2048_d0)

def turn3 (v : FVec F S8x2048 .f32) : FVec F S8x2048 .f32 :=
  select (cmpi .slt cls (all 1#32))
    (concatenate S8x2048 0 [⟨S5x2048, extractStridedSlice S5x2048 ![3, 0] v slices_S8x2048_o3_0_S5x2048⟩,
      ⟨S3x2048, extractStridedSlice S3x2048 ![0, 0] v slices_S8x2048_o0_0_S3x2048⟩] concatenates_S5x2048_S3x2048_S8x2048_d0)
    (concatenate S8x2048 0 [⟨S1x2048, extractStridedSlice S1x2048 ![7, 0] v slices_S8x2048_o7_0_S1x2048⟩,
      ⟨S7x2048, extractStridedSlice S7x2048 ![0, 0] v slices_S8x2048_o0_0_S7x2048⟩] concatenates_S1x2048_S7x2048_S8x2048_d0)

/-- Where the class is odd. -/
def odd : IVec S8x2048 1 := cmpi .eq (andi cls (all 1#32)) (all 1#32)

/-- One step of the choice of a graph's alpha: where the graph is `g`, the alpha `w`. -/
def pick (b : IVec S8x2048 32) (g : BitVec 32) (w : F .f32) (acc : FVec F S8x2048 .f32) : FVec F S8x2048 .f32 :=
  select (cmpi .eq b (all g)) (broadcast S8x2048 w) acc

/-- The alpha of each lane's graph, of the sixteen. -/
def alpha (b : IVec S8x2048 32) (w : Fin 16 → F .f32) : FVec F S8x2048 .f32 :=
  pick b 15#32 (w 15) (pick b 14#32 (w 14) (pick b 13#32 (w 13) (pick b 12#32 (w 12) (pick b 11#32 (w 11)
    (pick b 10#32 (w 10) (pick b 9#32 (w 9) (pick b 8#32 (w 8) (pick b 7#32 (w 7) (pick b 6#32 (w 6) (pick b 5#32 (w 5)
      (pick b 4#32 (w 4) (pick b 3#32 (w 3) (pick b 2#32 (w 2) (pick b 1#32 (w 1) (pick b 0#32 (w 0) (lit F 0#32))))))))))))))))

/-- The part of an alpha that goes to every class: a quarter of what is left of one. -/
def rest (a : FVec F S8x2048 .f32) : FVec F S8x2048 .f32 := mulf (subf (lit F 1065353216#32) a) (lit F 1048576000#32)

/-- The four products of a row of the transition matrix with the classes, summed from those on the diagonal (`d`) and the
    others (`o`). -/
def gather (d o : FVec F S8x2048 .f32) : FVec F S8x2048 .f32 :=
  addf (select odd (addf (turn3 o) d) (addf d (turn1 o))) (select odd (addf (turn1 o) (turn2 o)) (addf (turn2 o) (turn3 o)))

/-- The class probabilities of a pair: of its classes `x`, its graphs `b`, the sixteen alphas `w`. -/
def probs (x : FVec F S8x2048 .f32) (b : IVec S8x2048 32) (w : Fin 16 → F .f32) : FVec F S8x2048 .f32 :=
  gather (mulf (addf (alpha b w) (rest (alpha b w))) x) (mulf (rest (alpha b w)) x)

/-- The sum of each tile's four classes, in every row: two classes, then the two pairs. -/
def two (p : FVec F S8x2048 .f32) : FVec F S8x2048 .f32 :=
  select odd (turn3 (addf p (turn1 p))) (addf p (turn1 p))

def total (p : FVec F S8x2048 .f32) : FVec F S8x2048 .f32 := addf (two p) (turn2 (two p))

/-- The scores: Gumbel noise plus the logarithm of the probability. -/
def scores (n : IVec S8x2048 32) (p : FVec F S8x2048 .f32) : FVec F S8x2048 .f32 :=
  addf (gumbel (draw n)) (log (addf (divf p (total p)) (lit F 730643660#32)))

/-- Where `z` beats `y`, the class `k` further on: above it, or equal and before it. -/
def beats (k : BitVec 32) (z y : FVec F S8x2048 .f32) : IVec S8x2048 1 :=
  ori (cmpf .ogt z y) (andi (cmpi .slt (addi cls (all k)) (all 4#32)) (cmpf .oeq z y))

/-- The winner of each tile's four scores: one there, zero elsewhere. -/
def winner (z : FVec F S8x2048 .f32) : FVec F S8x2048 .f32 :=
  select (andi (andi (beats 1#32 z (turn1 z)) (beats 2#32 z (turn2 z))) (beats 3#32 z (turn3 z)))
    (lit F 1065353216#32) (lit F 0#32)

/-- The sampled class of a pair, as a one-hot. -/
def noise (n : IVec S8x2048 32) (p : FVec F S8x2048 .f32) : FVec F S8x2048 .f32 := winner (scores n p)

end Cert.KernelIdeal.Pair

end
-- ==== Proof.KernelIdealWords.lean ====
/- What one run of the body stores, as the four pairs' functions of what it loads. -/
module

public import proofs.«01_k».proof.Proof.KernelIdealBody
public import proofs.«01_k».proof.Proof.Pair
public import Idealize.ShloMosaic.Lib.WritesUnit

@[expose] public section

set_option maxRecDepth 16384

noncomputable section

namespace Cert.KernelIdeal.Body

open Cert.KernelIdeal Cert.KernelIdeal.Gen
open Idealize Idealize.ShloMosaic Idealize.ShloMosaic.TcCoe Idealize.ShloMosaic.Tactic Idealize.SL.Sem

variable {F : FTy → Type} [FloatOps F]

section Loads

variable (arg0 : Memref sig .tc .smem S16x1 .i32) (harg0 : arg0.IsWhole) (arg1 : Memref sig .tc .smem S501 .f32) (harg1 : arg1.IsWhole)
  (arg2 : Memref sig .tc .vmem S1x16384 .i32) (harg2 : arg2.IsWhole) (arg3 : Memref sig .tc .vmem S4x16384 .f32) (harg3 : arg3.IsWhole)
  (x0 : Vec F S16x1 .i32) (x1 : Vec F S501 .f32) (x2 : Vec F S1x16384 .i32) (x3 : Vec F S4x16384 .f32)
  (hx : TableIndices x0)

theorem step_inb (g : Fin 16) : ∀ a, (![g.val, 0] : Fin 2 → Nat) a + S1x1.size a ≤ S16x1.size a := by
  intro a
  have := g.isLt
  fin_cases a
  · show g.val + 1 ≤ 16
    omega
  · exact le_refl 1

theorem tile_inb (i : Fin 8) : ∀ a, (![0, 2048 * i.val] : Fin 2 → Nat) a + S4x2048.size a ≤ S4x16384.size a := by
  intro a
  have := i.isLt
  fin_cases a
  · exact le_refl 4
  · show 2048 * i.val + 2048 ≤ 16384
    omega

theorem row_inb (i : Fin 8) : ∀ a, (![0, 2048 * i.val] : Fin 2 → Nat) a + S1x2048.size a ≤ S1x16384.size a := by
  intro a
  have := i.isLt
  fin_cases a
  · exact le_refl 1
  · show 2048 * i.val + 2048 ≤ 16384
    omega

/-- The timestep of graph `g`, as the body loads it. -/
def stepAt (g : Fin 16) : BitVec 32 :=
  arg0.view.readAt (Elt F) (Rect.unit (s := S16x1) ![g.val, 0] S1x1.size (step_inb g)).toLoadRect (harg0.unread x0)
    (Shape.Idx.first (numel1_S1x1.symm ▸ Nat.one_pos))

include hx in
theorem stepAt_lt (g : Fin 16) : (tableIndex F (stepAt arg0 harg0 x0 g)).toNat < 501 := by
  unfold stepAt
  rw [View.readAt_apply, harg0.read_unread]
  exact hx _

/-- The alpha of graph `g`, as the body loads it. -/
def alphaAt (g : Fin 16) : F .f32 :=
  arg1.view.readAt (Elt F) (Rect.unit (s := S501) ![(tableIndex F (stepAt arg0 harg0 x0 g)).toNat] S1.size
    (entry_inb _ (stepAt_lt arg0 harg0 x0 hx g))).toLoadRect (harg1.unread x1) (Shape.Idx.first (numel1_S1.symm ▸ Nat.one_pos))

/-- One tile of the classes, as the body loads it. -/
def classTile (i : Fin 8) : FVec F S4x2048 .f32 :=
  shapeCast S4x2048 (arg3.view.readAt (Elt F) (Rect.unit (s := S4x16384) ![0, 2048 * i.val] S4x2048.size
    (tile_inb i)).toLoadRect (harg3.unread x3)) shapeCasts_S4x2048_S4x2048

/-- One tile of the graph numbers, as the body loads it and repeats it over the four classes. -/
def graphTile (i : Fin 8) : IVec S4x2048 32 :=
  broadcastTo S4x2048 (shapeCast S1x2048 (shapeCast S1x2048 (arg2.view.readAt (Elt F)
    (Rect.unit (s := S1x16384) ![0, 2048 * i.val] S1x2048.size (row_inb i)).toLoadRect (harg2.unread x2))
      shapeCasts_S1x2048_S1x2048) shapeCasts_S1x2048_S1x2048) broadcasts_S1x2048_S4x2048

/-- The two tiles of pair `q`. -/
def classPair (q : Fin 4) : FVec F S8x2048 .f32 :=
  concatenate S8x2048 0 [⟨S4x2048, classTile arg3 harg3 x3 ⟨2 * q.val, by omega⟩⟩,
    ⟨S4x2048, classTile arg3 harg3 x3 ⟨2 * q.val + 1, by omega⟩⟩] concatenates_S4x2048_S4x2048_S8x2048_d0

def graphPair (q : Fin 4) : IVec S8x2048 32 :=
  concatenate S8x2048 0 [⟨S4x2048, graphTile (F := F) arg2 harg2 x2 ⟨2 * q.val, by omega⟩⟩,
    ⟨S4x2048, graphTile (F := F) arg2 harg2 x2 ⟨2 * q.val + 1, by omega⟩⟩] concatenates_S4x2048_S4x2048_S8x2048_d0

/-- The class probabilities of pair `q`. -/
def probsAt (q : Fin 4) : FVec F S8x2048 .f32 :=
  Pair.probs (classPair arg3 harg3 x3 q) (graphPair (F := F) arg2 harg2 x2 q) (alphaAt arg0 harg0 arg1 harg1 x0 x1 hx)

/-- The sampled classes of pair `q`. -/
def noiseAt (q : Fin 4) : FVec F S8x2048 .f32 :=
  Pair.noise (Pair.counters (BitVec.ofNat 32 (16384 * q.val)))
    (probsAt arg0 harg0 arg1 harg1 arg2 harg2 arg3 harg3 x0 x1 x2 x3 hx q)

end Loads

/-- Tile `i` of eight, of the four pairs' values. -/
def tileOf (v : Fin 4 → FVec F S8x2048 .f32) (i : Fin 8) : FVec F S4x2048 .f32 :=
  if i.val % 2 = 0 then extractStridedSlice S4x2048 ![0, 0] (v ⟨i.val / 2, by omega⟩) slices_S8x2048_o0_0_S4x2048
  else extractStridedSlice S4x2048 ![4, 0] (v ⟨i.val / 2, by omega⟩) slices_S8x2048_o4_0_S4x2048

/-- The eight stores of tiles of the four pairs' values. -/
def tiles (v : Fin 4 → FVec F S8x2048 .f32) : List (View.Piece (Elt F) S4x16384 .f32) :=
  View.tilePieces (s := S4x16384) (e := .f32) S4x2048.size (fun i : Fin 8 => ![0, 2048 * i.val])
    tile_inb (fun i => tileOf v i) 8 le_rfl

variable (c : Dev nD)
  (arg0 : Memref sig .tc .smem S16x1 .i32) (harg0 : arg0.IsWhole) (arg1 : Memref sig .tc .smem S501 .f32) (harg1 : arg1.IsWhole)
  (arg2 : Memref sig .tc .vmem S1x16384 .i32) (harg2 : arg2.IsWhole) (arg3 : Memref sig .tc .vmem S4x16384 .f32) (harg3 : arg3.IsWhole)
  (arg4 : Memref sig .tc .vmem S4x16384 .f32) (harg4 : arg4.IsWhole) (arg5 : Memref sig .tc .vmem S4x16384 .f32) (harg5 : arg5.IsWhole)
  (x0 : Vec F S16x1 .i32) (x1 : Vec F S501 .f32) (x2 : Vec F S1x16384 .i32) (x3 : Vec F S4x16384 .f32)
  (hx : TableIndices x0)

/-- The stores into the first output are the eight tiles of the pairs' class probabilities. -/
theorem run_probs : (run c arg0 harg0 arg1 harg1 arg2 harg2 arg3 harg3 arg4 harg4 arg5 harg5 x0 x1 x2 x3 hx).1
    = tiles (probsAt arg0 harg0 arg1 harg1 arg2 harg2 arg3 harg3 x0 x1 x2 x3 hx) := by
  sl_kernel_rfl

/-- The stores into the second output are the eight tiles of the pairs' sampled classes. -/
theorem run_noise : (run c arg0 harg0 arg1 harg1 arg2 harg2 arg3 harg3 arg4 harg4 arg5 harg5 x0 x1 x2 x3 hx).2.1
    = tiles (noiseAt arg0 harg0 arg1 harg1 arg2 harg2 arg3 harg3 x0 x1 x2 x3 hx) := by
  sl_kernel_rfl

end Cert.KernelIdeal.Body

end
-- ==== Proof.Spec.lean ====
/- The mathematics of one node over the extended reals: its class probabilities from its classes and its graph's alpha,
   and its sampled class from them and four random words. Both programs are read as this. -/
module

public import Idealize.ShloMosaic.PureOps.Ideal
public import proofs.«01_k».proof.Proof.Threefry
public import Mathlib.Algebra.BigOperators.Fin

@[expose] public section

noncomputable section

namespace Cert.Spec

open Idealize Idealize.ShloMosaic

/-- The part of `a` that goes to every class: a quarter of what is left of one. -/
def rest (a : EReal) : EReal := (1 - a) * ((1 / 4 : ℝ) : EReal)

/-- The probability of class `c`: the transition from class `c` to itself is `a` and the rest, to another the rest. -/
def prob (a : EReal) (x : Fin 4 → EReal) (c : Fin 4) : EReal :=
  (a + rest a) * x c + (rest a * x (c + 1) + rest a * x (c + 2) + rest a * x (c + 3))

/-- A uniform number from the upper 23 bits of a random word: the mantissa of a number from one to two, less one, spread
    over the interval from the least positive number to one. -/
def uniform (w : BitVec 32) : EReal :=
  max (Ideal.ofBits .f32 0x00800000#32)
    ((FloatOps.ofBits (F := Ideal) .f32 (IntOp.ori (IntOp.shrui .vector w 9#32) 0x3F800000#32) - Ideal.ofBits .f32 0x3F800000#32)
      * (Ideal.ofBits .f32 0x3F800000#32 - Ideal.ofBits .f32 0x00800000#32) + Ideal.ofBits .f32 0x00800000#32)

/-- The Gumbel noise of a random word. -/
def gumbel (w : BitVec 32) : EReal := -Ideal.log (-Ideal.log (uniform w))

/-- The score of a class of probability `p` of total `s`: its noise plus the logarithm of its share. -/
def score (w : BitVec 32) (p s : EReal) : EReal := gumbel w + Ideal.log (Ideal.div p s + Ideal.ofBits .f32 0x2B8CBCCC#32)

/-- Class `c` wins: it is above every class before it, and not below any after it. -/
def Wins (z : Fin 4 → EReal) (c : Fin 4) : Prop := ∀ d, d ≠ c → z d < z c ∨ (c < d ∧ z c = z d)

open Classical in
/-- The winner as a one-hot. -/
def hot (z : Fin 4 → EReal) (c : Fin 4) : EReal := if Wins z c then 1 else 0

/-- The sampled class of node `n` of probabilities `p`: the winner of its four scores, under the random words of the
    counters `4 n` to `4 n + 3`. -/
def sample (n : ℕ) (p : Fin 4 → EReal) : Fin 4 → EReal :=
  hot fun c => score (Threefry.draw (BitVec.ofNat 32 (4 * n + c.val))) (p c) (∑ d, p d)

end Cert.Spec

end
-- ==== Proof.Lanes.lean ====
/- The pair's functions, lane by lane, over the extended reals: row `c` of tile `h` of a pair, at a lane, holds class
   `c` of one node. -/
module

public import proofs.«01_k».proof.Proof.Pair
public import proofs.«01_k».proof.Proof.Spec
public import proofs.«01_k».proof.Proof.Consts
public import Idealize.ShloMosaic.Lib.Pointwise

@[expose] public section

noncomputable section

namespace Cert.KernelIdeal.Pair

open Cert.KernelIdeal Cert.KernelIdeal.Gen
open Idealize Idealize.ShloMosaic Idealize.SL.Sem

/-- Row `c` of tile `h`. -/
def row (h : Fin 2) (c : Fin 4) : Fin 8 := ⟨4 * h.val + c.val, by omega⟩

/-- The position of class `c` of tile `h` at lane `l`. -/
abbrev at_ (h : Fin 2) (l : Fin 2048) (c : Fin 4) : S8x2048.Idx := ix2 (row h c) l

/-! ## The mixing -/

theorem round_lane (a b : BitVec 32) (p : Two) (i : S8x2048.Idx) :
    ((round a b p).1 i, (round a b p).2 i) = Threefry.round a b (p.1 i, p.2 i) := rfl

theorem inject_lane (a b : BitVec 32) (p : Two) (i : S8x2048.Idx) :
    ((inject a b p).1 i, (inject a b p).2 i) = Threefry.inject a b (p.1 i, p.2 i) := rfl

theorem mixed_lane (n : IVec S8x2048 32) (i : S8x2048.Idx) :
    ((mixed n).1 i, (mixed n).2 i) = Threefry.mixed (n i) := by
  unfold mixed Threefry.mixed roundsA roundsB Threefry.roundsA Threefry.roundsB
  simp only [round_lane, inject_lane]
  rfl

/-- The random words, lane by lane. -/
theorem draw_lane (n : IVec S8x2048 32) (i : S8x2048.Idx) : draw n i = Threefry.draw (n i) := by
  have e := mixed_lane n i
  show IntOp.xori ((mixed n).1 i) ((mixed n).2 i) = _
  rw [Threefry.draw, ← e]

/-! ## The turns -/

theorem cls_at (h : Fin 2) (l : Fin 2048) (c : Fin 4) : cls (at_ h l c) = BitVec.ofNat 32 c.val := by
  unfold cls
  pointwise
  fin_cases h <;> fin_cases c <;> rfl

theorem odd_at (h : Fin 2) (l : Fin 2048) (c : Fin 4) : odd (at_ h l c) = BitVec.ofBool (decide (c.val % 2 = 1)) := by
  unfold odd
  pointwise
  rw [cls_at]
  fin_cases c <;> rfl

theorem turn1_at {F : FTy → Type} [FloatOps F] (v : FVec F S8x2048 .f32) (h : Fin 2) (l : Fin 2048) (c : Fin 4) :
    turn1 v (at_ h l c) = v (at_ h l (c + 1)) := by
  unfold turn1
  pointwise
  rw [cls_at]
  fin_cases h <;> fin_cases c <;> rfl

theorem turn2_at {F : FTy → Type} [FloatOps F] (v : FVec F S8x2048 .f32) (h : Fin 2) (l : Fin 2048) (c : Fin 4) :
    turn2 v (at_ h l c) = v (at_ h l (c + 2)) := by
  unfold turn2
  pointwise
  rw [cls_at]
  fin_cases h <;> fin_cases c <;> rfl

theorem turn3_at {F : FTy → Type} [FloatOps F] (v : FVec F S8x2048 .f32) (h : Fin 2) (l : Fin 2048) (c : Fin 4) :
    turn3 v (at_ h l c) = v (at_ h l (c + 3)) := by
  unfold turn3
  pointwise
  rw [cls_at]
  fin_cases h <;> fin_cases c <;> rfl

/-! ## The probabilities -/

theorem select_ofBool {α : Type} (p : Bool) (x y : α) : Scalar.select (BitVec.ofBool p) x y = if p then x else y := by
  cases p <;> rfl

/-- A row's products, summed. -/
theorem gather_at (d o : FVec Ideal S8x2048 .f32) (h : Fin 2) (l : Fin 2048) (c : Fin 4) :
    (gather d o (at_ h l c) : EReal)
      = d (at_ h l c) + (o (at_ h l (c + 1)) + o (at_ h l (c + 2)) + o (at_ h l (c + 3))) := by
  unfold gather
  pointwise
  simp only [odd_at, turn1_at, turn2_at, turn3_at, select_ofBool, Ideal.addf_def]
  split
  · abel
  · abel

/-- Below sixteen, the chain of choices is the graph's alpha. -/
theorem alpha_at (b : IVec S8x2048 32) (w : Fin 16 → Ideal .f32) (i : S8x2048.Idx) (hb : (b i).toNat < 16) :
    alpha b w i = w ⟨(b i).toNat, hb⟩ := by
  have e : b i = BitVec.ofNat 32 (⟨(b i).toNat, hb⟩ : Fin 16).val := by simp
  have hp : ∀ g y (acc : FVec Ideal S8x2048 .f32), pick b g y acc i = if b i = g then y else acc i := fun g y acc => by
    unfold pick
    pointwise
    show Scalar.select (BitVec.ofBool (b i == g)) y (acc i) = _
    rw [select_ofBool]
    simp
  unfold alpha
  simp only [hp]
  generalize (⟨(b i).toNat, hb⟩ : Fin 16) = g at e ⊢
  rw [e]
  fin_cases g <;> rfl

/-- The rest, lane by lane. -/
theorem rest_lane (a : FVec Ideal S8x2048 .f32) (i : S8x2048.Idx) : (rest a i : EReal) = Spec.rest (a i) := by
  unfold rest Spec.rest
  pointwise
  simp only [Ideal.mulf_def, Ideal.subf_def, Ideal.ofBits_def, Consts.ofBits_one, Consts.ofBits_quarter]

/-- The class probabilities of a node. -/
theorem probs_at (x : FVec Ideal S8x2048 .f32) (b : IVec S8x2048 32) (w : Fin 16 → Ideal .f32) (h : Fin 2) (l : Fin 2048)
    (g : Fin 16) (hg : ∀ c, (b (at_ h l c)).toNat = g.val) (c : Fin 4) :
    (probs x b w (at_ h l c) : EReal) = Spec.prob (w g) (fun c => x (at_ h l c)) c := by
  have ha : ∀ c, alpha b w (at_ h l c) = w g := fun c => by
    rw [alpha_at b w _ ((hg c).trans_lt g.isLt)]
    exact congrArg w (Fin.ext (hg c))
  unfold probs Spec.prob
  rw [gather_at]
  pointwise
  simp only [rest_lane, ha, Ideal.mulf_def, Ideal.addf_def]

theorem add_lane (a b : FVec Ideal S8x2048 .f32) (i : S8x2048.Idx) : (addf a b i : EReal) = a i + b i := rfl

/-- The total of a node. -/
theorem total_at (p : FVec Ideal S8x2048 .f32) (h : Fin 2) (l : Fin 2048) (c : Fin 4) :
    (total p (at_ h l c) : EReal) = ∑ d : Fin 4, (p (at_ h l d) : EReal) := by
  have ht : ∀ c, (two p (at_ h l c) : EReal) = if decide (c.val % 2 = 1) then p (at_ h l (c + 3)) + p (at_ h l (c + 3 + 1))
      else p (at_ h l c) + p (at_ h l (c + 1)) := fun c => by
    unfold two
    rw [ValueIdx.select_apply, odd_at, select_ofBool, turn3_at, add_lane, add_lane, turn1_at, turn1_at]
  rw [total, add_lane, turn2_at, ht, ht, Fin.sum_univ_four]
  fin_cases c <;> simp <;> abel

/-! ## The sampled class -/

/-- The Gumbel noise, lane by lane. -/
theorem gumbel_lane (n : IVec S8x2048 32) (i : S8x2048.Idx) : (gumbel (F := Ideal) n i : EReal) = Spec.gumbel (n i) := by
  unfold gumbel Spec.gumbel Spec.uniform
  pointwise
  simp only [Ideal.mulf_def, Ideal.subf_def, Ideal.ofBits_def, Ideal.addf_def, Ideal.log_def, Ideal.maximumf_def,
    Consts.ofBits_zero, zero_sub, Ideal.scalar_subf_def]

theorem score_lane (g p t : FVec Ideal S8x2048 .f32) (i : S8x2048.Idx) :
    (addf g (log (addf (divf p t) (lit Ideal 730643660#32))) i : EReal)
      = g i + Ideal.log (Ideal.div (p i) (t i) + Ideal.ofBits .f32 0x2B8CBCCC#32) := rfl

/-- The scores of a node. -/
theorem scores_at (n : IVec S8x2048 32) (p : FVec Ideal S8x2048 .f32) (h : Fin 2) (l : Fin 2048) (c : Fin 4) :
    (scores n p (at_ h l c) : EReal)
      = Spec.score (Threefry.draw (n (at_ h l c))) (p (at_ h l c)) (∑ d : Fin 4, (p (at_ h l d) : EReal)) := by
  rw [scores, score_lane, gumbel_lane, draw_lane, total_at, Spec.score]

theorem beats_at (k : Fin 4) (z y : FVec Ideal S8x2048 .f32) (h : Fin 2) (l : Fin 2048) (c : Fin 4) :
    beats (BitVec.ofNat 32 k.val) z y (at_ h l c)
      = BitVec.ofBool (decide ((y (at_ h l c) : EReal) < z (at_ h l c)
          ∨ (c.val + k.val < 4 ∧ (z (at_ h l c) : EReal) = y (at_ h l c)))) := by
  unfold beats
  pointwise
  rw [cls_at]
  have e : IntOp.cmpi .slt (IntOp.addi (BitVec.ofNat 32 c.val) (BitVec.ofNat 32 k.val)) 4#32
      = BitVec.ofBool (decide (c.val + k.val < 4)) := by
    revert c k; decide
  rw [e]
  show IntOp.ori (BitVec.ofBool (decide _)) (IntOp.andi _ (BitVec.ofBool (decide _))) = _
  rw [show ∀ p q r : Bool, IntOp.ori (BitVec.ofBool p) (IntOp.andi (BitVec.ofBool q) (BitVec.ofBool r))
    = BitVec.ofBool (p || (q && r)) from by decide]
  congr 1
  simp

/-- The winner of a node's four scores. -/
theorem winner_at (z : FVec Ideal S8x2048 .f32) (h : Fin 2) (l : Fin 2048) (c : Fin 4) :
    (winner z (at_ h l c) : EReal) = Spec.hot (fun c => z (at_ h l c)) c := by
  unfold winner Spec.hot
  pointwise
  rw [show (1#32) = BitVec.ofNat 32 (1 : Fin 4).val from rfl, show (2#32) = BitVec.ofNat 32 (2 : Fin 4).val from rfl,
    show (3#32) = BitVec.ofNat 32 (3 : Fin 4).val from rfl]
  rw [beats_at, beats_at, beats_at, turn1_at, turn2_at, turn3_at]
  rw [show ∀ p q r : Bool, IntOp.andi (IntOp.andi (BitVec.ofBool p) (BitVec.ofBool q)) (BitVec.ofBool r)
    = BitVec.ofBool (p && q && r) from by decide, select_ofBool]
  congr 1
  simp only [Bool.and_eq_true, decide_eq_true_eq, eq_iff_iff]
  unfold Spec.Wins
  fin_cases c <;> simp [Fin.forall_fin_succ] <;> tauto

/-- The sampled class of a node, from its probabilities. -/
theorem noise_at (n : IVec S8x2048 32) (p : FVec Ideal S8x2048 .f32) (h : Fin 2) (l : Fin 2048) (c : Fin 4) :
    (noise n p (at_ h l c) : EReal) = Spec.hot (fun c =>
      Spec.score (Threefry.draw (n (at_ h l c))) (p (at_ h l c)) (∑ d : Fin 4, (p (at_ h l d) : EReal))) c := by
  rw [noise, winner_at]
  exact congrArg (Spec.hot · c) (funext fun c => scores_at n p h l c)

end Cert.KernelIdeal.Pair

end
-- ==== Proof.KernelIdealTiles.lean ====
/- What one run of the body leaves in its two output buffers, over the extended reals, index by index: node `n`'s class
   probabilities and its sampled class. -/
module

public import proofs.«01_k».proof.Proof.KernelIdealWords
public import proofs.«01_k».proof.Proof.KernelIdealRange
public import proofs.«01_k».proof.Proof.Lanes

@[expose] public section

set_option maxRecDepth 16384

noncomputable section

namespace Cert.KernelIdeal.Body

open Cert.KernelIdeal Cert.KernelIdeal.Gen Cert.KernelIdeal.Pair
open Idealize Idealize.ShloMosaic Idealize.ShloMosaic.TcCoe Idealize.ShloMosaic.Tactic Idealize.SL.Sem

/-! ## A node's place: tile, pair, half, lane -/

/-- The tile of node `n`. -/
def tile (n : Fin 16384) : Fin 8 := ⟨n.val / 2048, by omega⟩
/-- Its lane in the tile. -/
def lane (n : Fin 16384) : Fin 2048 := ⟨n.val % 2048, by omega⟩
/-- Its pair. -/
def pair (n : Fin 16384) : Fin 4 := ⟨n.val / 4096, by omega⟩
/-- Which tile of the pair. -/
def half (n : Fin 16384) : Fin 2 := ⟨n.val / 2048 % 2, by omega⟩

/-- The tiles of the four pairs' values, read back at class `k` of node `n`. -/
theorem read_tiles (v : Fin 4 → FVec Ideal S8x2048 .f32) (μ : Memref sig .tc .vmem S4x16384 .f32)
    (f : μ.view.ty.Contents (Elt Ideal)) (k : Fin 4) (n : Fin 16384) :
    μ.view.read (Elt Ideal) (μ.view.writes (Elt Ideal) f (tiles v)) (ix2 k n) = v (pair n) (at_ (half n) (lane n) k) := by
  unfold tiles
  rw [View.read_tilePieces μ.view f S4x2048.size _ _ _ 8 le_rfl (ix2 k n) (tile n) (tile n).isLt (ix2 k (lane n)) ?hx 1 ?hd]
  case hx =>
    intro a
    fin_cases a
    · show k.val = 0 + k.val
      omega
    · show n.val = 2048 * (n.val / 2048) + n.val % 2048
      omega
  case hd =>
    intro i' hi
    have hi : i'.val ≠ n.val / 2048 := fun h => hi (Fin.ext h)
    show n.val < 2048 * i'.val ∨ 2048 * i'.val + 2048 ≤ n.val
    omega
  have hp : (⟨(tile n).val / 2, by have := (tile n).isLt; omega⟩ : Fin 4) = pair n := Fin.ext (by
    show n.val / 2048 / 2 = n.val / 4096
    omega)
  unfold tileOf
  rw [hp]
  have ht : (tile n).val % 2 = (half n).val := rfl
  split
  · pointwise
    congr 2
    refine Fin.ext ?_
    show k.val = 4 * (half n).val + k.val
    omega
  · pointwise
    congr 2
    refine Fin.ext ?_
    show 4 + k.val = 4 * (half n).val + k.val
    have := (half n).isLt
    omega

/-- The counter of class `k` of node `n`. -/
theorem counters_at (k : Fin 4) (n : Fin 16384) :
    counters (BitVec.ofNat 32 (16384 * (pair n).val)) (at_ (half n) (lane n) k) = BitVec.ofNat 32 (4 * n.val + k.val) := by
  unfold counters
  pointwise
  rw [cls_at]
  have e : Scalar.select (IntOp.cmpi .sge (BitVec.ofNat 32 (row (half n) k).val) 4#32) 8192#32 0#32
      = BitVec.ofNat 32 (8192 * (half n).val) := by
    generalize half n = h
    revert h k; decide
  rw [e]
  show BitVec.ofNat 32 (16384 * (pair n).val) + 4#32 * BitVec.ofNat 32 (lane n).val + BitVec.ofNat 32 k.val
    + BitVec.ofNat 32 (8192 * (half n).val) = _
  rw [show (4#32) = BitVec.ofNat 32 4 from rfl, ← BitVec.ofNat_mul, ← BitVec.ofNat_add, ← BitVec.ofNat_add, ← BitVec.ofNat_add]
  congr 1
  show 16384 * (n.val / 4096) + 4 * (n.val % 2048) + k.val + 8192 * (n.val / 2048 % 2) = _
  omega

section Loads

variable (arg0 : Memref sig .tc .smem S16x1 .i32) (harg0 : arg0.IsWhole) (arg1 : Memref sig .tc .smem S501 .f32) (harg1 : arg1.IsWhole)
  (arg2 : Memref sig .tc .vmem S1x16384 .i32) (harg2 : arg2.IsWhole) (arg3 : Memref sig .tc .vmem S4x16384 .f32) (harg3 : arg3.IsWhole)
  (x0 : Vec Ideal S16x1 .i32) (x1 : Vec Ideal S501 .f32) (x2 : Vec Ideal S1x16384 .i32) (x3 : Vec Ideal S4x16384 .f32)
  (hx : TableIndices x0)

theorem stepAt_eq (g : Fin 16) : stepAt (F := Ideal) arg0 harg0 x0 g = x0 (ix2 g 0) := by
  unfold stepAt
  rw [View.readAt_apply, harg0.read_unread]
  congr 1
  funext a
  fin_cases a
  · refine Fin.ext ?_
    show g.val + 1 * 0 = g.val
    omega
  · rfl

/-- A graph's alpha is the table's entry at its timestep. -/
theorem alphaAt_eq (g : Fin 16) (ht : (x0 (ix2 g 0)).toNat ≤ 500) :
    alphaAt arg0 harg0 arg1 harg1 x0 x1 hx g = x1 (ix1 ⟨(x0 (ix2 g 0)).toNat, by omega⟩) := by
  unfold alphaAt
  rw [View.readAt_apply, harg1.read_unread]
  congr 1
  funext a
  fin_cases a
  refine Fin.ext ?_
  show (tableIndex Ideal (stepAt arg0 harg0 x0 g)).toNat + 1 * 0 = (x0 (ix2 g 0)).toNat
  rw [stepAt_eq, index_eq _ ht]
  omega

theorem classTile_at (i : Fin 8) (k : Fin 4) (l : Fin 2048) :
    classTile arg3 harg3 x3 i (ix2 k l) = x3 (ix2 k ⟨2048 * i.val + l.val, by omega⟩) := by
  unfold classTile
  rw [View.readAt_eq_ld, harg3.read_unread]
  pointwise

theorem graphTile_at (i : Fin 8) (k : Fin 4) (l : Fin 2048) :
    graphTile (F := Ideal) arg2 harg2 x2 i (ix2 k l) = x2 (ix2 0 ⟨2048 * i.val + l.val, by omega⟩) := by
  unfold graphTile
  rw [View.readAt_eq_ld, harg2.read_unread]
  pointwise

theorem classPair_at (k : Fin 4) (n : Fin 16384) :
    classPair arg3 harg3 x3 (pair n) (at_ (half n) (lane n) k) = x3 (ix2 k n) := by
  have hr : (row (half n) k).val = 4 * (n.val / 2048 % 2) + k.val := rfl
  have hp : (pair n).val = n.val / 4096 := rfl
  have hl : (lane n).val = n.val % 2048 := rfl
  unfold classPair
  pointwise
  split <;>
  · rename_i hc
    rw [hr] at hc
    rw [classTile_at]
    refine congrArg x3 (congrArg₂ ix2 (Fin.ext ?_) (Fin.ext ?_))
    · simp only [hr]
      omega
    · simp only [hp, hl]
      omega

theorem graphPair_at (k : Fin 4) (n : Fin 16384) :
    graphPair (F := Ideal) arg2 harg2 x2 (pair n) (at_ (half n) (lane n) k) = x2 (ix2 0 n) := by
  have hr : (row (half n) k).val = 4 * (n.val / 2048 % 2) + k.val := rfl
  have hp : (pair n).val = n.val / 4096 := rfl
  have hl : (lane n).val = n.val % 2048 := rfl
  unfold graphPair
  pointwise
  split <;>
  · rename_i hc
    rw [hr] at hc
    rw [graphTile_at]
    refine congrArg x2 (congrArg₂ ix2 rfl (Fin.ext ?_))
    simp only [hp, hl]
    omega

/-- The class probabilities of node `n`, from the loads: its column of the classes, its graph's timestep's alpha. -/
def nodeProb (ht : ∀ i, (x0 i).toNat ≤ 500) (hb : ∀ i, (x2 i).toNat < 16) (n : Fin 16384) : Fin 4 → EReal :=
  Spec.prob (x1 (ix1 ⟨(x0 (ix2 (⟨(x2 (ix2 0 n)).toNat, hb _⟩ : Fin 16) 0)).toNat, by
    have := ht (ix2 (⟨(x2 (ix2 0 n)).toNat, hb _⟩ : Fin 16) 0); omega⟩)) (fun k => x3 (ix2 k n))

variable (ht : ∀ i, (x0 i).toNat ≤ 500) (hb : ∀ i, (x2 i).toNat < 16)

theorem probsAt_node (n : Fin 16384) (k : Fin 4) :
    (probsAt arg0 harg0 arg1 harg1 arg2 harg2 arg3 harg3 x0 x1 x2 x3 hx (pair n) (at_ (half n) (lane n) k) : EReal)
      = nodeProb x0 x1 x2 x3 ht hb n k := by
  unfold probsAt
  rw [probs_at _ _ _ _ _ ⟨(x2 (ix2 0 n)).toNat, hb _⟩ (fun c => by rw [graphPair_at]) k, alphaAt_eq _ _ _ _ _ _ _ _ (ht _)]
  exact congrArg (Spec.prob _ · k) (funext fun k => classPair_at arg3 harg3 x3 k n)

theorem noiseAt_node (n : Fin 16384) (k : Fin 4) :
    (noiseAt arg0 harg0 arg1 harg1 arg2 harg2 arg3 harg3 x0 x1 x2 x3 hx (pair n) (at_ (half n) (lane n) k) : EReal)
      = Spec.sample n.val (nodeProb x0 x1 x2 x3 ht hb n) k := by
  unfold noiseAt Spec.sample
  rw [noise_at]
  simp only [counters_at, probsAt_node arg0 harg0 arg1 harg1 arg2 harg2 arg3 harg3 x0 x1 x2 x3 hx ht hb]

end Loads

end Cert.KernelIdeal.Body

end
-- ==== Proof.KernelIdealValue.lean ====
/- What the idealized kernel's two result arrays end holding: node by node, the class probabilities and the sampled class of
   the arguments. -/
module

public import proofs.«01_k».proof.Proof.KernelIdealTiles
public import Idealize.ShloMosaic.Lib.Pipeline.Value
public import Idealize.ShloMosaic.Lib.StableHlo.ReadAt

@[expose] public section

set_option maxRecDepth 16384

noncomputable section

namespace Cert.KernelIdeal.Body

open Cert.KernelIdeal Cert.KernelIdeal.Gen
open Idealize Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The arrays as the region finds them -/

/-- The table array holds the table. -/
theorem V_table (c : Dev nD) (i : S501.Idx) :
    V m c main_cst i = FloatOps.ofBits (F := Ideal) .f32 (lit0 (S501.rowMajor i)) := by
  show StableHlo.after _ _ (Proc.devRef .tc main_cst) i = _
  unfold hostOps0
  after_reads_at

/-- The classes' array holds the classes, transposed. -/
theorem V_classes (c : Dev nD) (k : Fin 4) (n : Fin 16384) :
    V m c main_v0 (ix2 k n) = m ((c : Thread nD τ).loc main_arg0) (ix2 n k) := by
  show StableHlo.after _ _ (Proc.devRef .tc main_v0) (ix2 k n) = _
  unfold hostOps0
  after_reads_at

/-- The graphs' array holds the nodes' graphs as one row. -/
theorem V_graphs (c : Dev nD) (n : Fin 16384) :
    V m c main_v1 (ix2 0 n) = m ((c : Thread nD τ).loc main_arg1) (ix1 n) := by
  show StableHlo.after _ _ (Proc.devRef .tc main_v1) (ix2 0 n) = _
  unfold hostOps0
  after_reads_at

/-! ## The blocks: each window's one block is its whole array -/

theorem blk0 (f : main_arg2.ty.Contents (Elt Ideal)) (t : Fin cfg0.N) :
    (((cfg0.win 0).blk t).view.read (Elt Ideal) f : main_arg2.ty.Contents (Elt Ideal)) = f := by
  have hz : (fun a => win0_0.index t a * main_arg2.ty.shape.size a) = fun _ => 0 := funext fun a => Nat.zero_mul _
  exact Memref.read_access_unit_zero (Elt Ideal) main_arg2 hz (fun a => by rw [congrFun hz a]; simp) f

theorem blk1 (f : main_cst.ty.Contents (Elt Ideal)) (t : Fin cfg0.N) :
    (((cfg0.win 1).blk t).view.read (Elt Ideal) f : main_cst.ty.Contents (Elt Ideal)) = f := by
  have hz : (fun a => win0_1.index t a * main_cst.ty.shape.size a) = fun _ => 0 := funext fun a => Nat.zero_mul _
  exact Memref.read_access_unit_zero (Elt Ideal) main_cst hz (fun a => by rw [congrFun hz a]; simp) f

theorem blk2 (f : main_v1.ty.Contents (Elt Ideal)) (t : Fin cfg0.N) :
    (((cfg0.win 2).blk t).view.read (Elt Ideal) f : main_v1.ty.Contents (Elt Ideal)) = f := by
  have hz : (fun a => win0_2.index t a * main_v1.ty.shape.size a) = fun _ => 0 := funext fun a => Nat.zero_mul _
  exact Memref.read_access_unit_zero (Elt Ideal) main_v1 hz (fun a => by rw [congrFun hz a]; simp) f

theorem blk3 (f : main_v0.ty.Contents (Elt Ideal)) (t : Fin cfg0.N) :
    (((cfg0.win 3).blk t).view.read (Elt Ideal) f : main_v0.ty.Contents (Elt Ideal)) = f := by
  have hz : (fun a => win0_3.index t a * main_v0.ty.shape.size a) = fun _ => 0 := funext fun a => Nat.zero_mul _
  exact Memref.read_access_unit_zero (Elt Ideal) main_v0 hz (fun a => by rw [congrFun hz a]; simp) f

theorem blk4 (f : main_v2_0.ty.Contents (Elt Ideal)) (t : Fin cfg0.N) :
    (((cfg0.win 4).blk t).view.read (Elt Ideal) f : main_v2_0.ty.Contents (Elt Ideal)) = f := by
  have hz : (fun a => win0_4.index t a * main_v2_0.ty.shape.size a) = fun _ => 0 := funext fun a => Nat.zero_mul _
  exact Memref.read_access_unit_zero (Elt Ideal) main_v2_0 hz (fun a => by rw [congrFun hz a]; simp) f

theorem blk5 (f : main_v2_1.ty.Contents (Elt Ideal)) (t : Fin cfg0.N) :
    (((cfg0.win 5).blk t).view.read (Elt Ideal) f : main_v2_1.ty.Contents (Elt Ideal)) = f := by
  have hz : (fun a => win0_5.index t a * main_v2_1.ty.shape.size a) = fun _ => 0 := funext fun a => Nat.zero_mul _
  exact Memref.read_access_unit_zero (Elt Ideal) main_v2_1 hz (fun a => by rw [congrFun hz a]; simp) f

/-! ## The two results -/

variable {m}

/-- The node's graph. -/
def graphOf (h : Cert.Pre_KernelIdeal m) (c : Dev nD) (n : Fin 16384) : Fin 16 :=
  ⟨(m ((c : Thread nD τ).loc main_arg1) (ix1 n) : BitVec 32).toNat, Cert.Range.graph_lt _ _ _ (h c).1 _⟩

/-- The timestep of a graph. -/
def stepOf (h : Cert.Pre_KernelIdeal m) (c : Dev nD) (g : Fin 16) : Fin 501 :=
  ⟨(m ((c : Thread nD τ).loc main_arg2) (ix2 g 0) : BitVec 32).toNat,
    Nat.lt_succ_of_le (Cert.Range.step_le _ _ _ (h c).2 _)⟩

/-- The class probabilities of node `n`, from the arguments. -/
def probOf (h : Cert.Pre_KernelIdeal m) (c : Dev nD) (n : Fin 16384) : Fin 4 → EReal :=
  Spec.prob (FloatOps.ofBits (F := Ideal) .f32 (lit0 (S501.rowMajor (ix1 (stepOf h c (graphOf h c n))))))
    (fun k => m ((c : Thread nD τ).loc main_arg0) (ix2 n k))

theorem graphs_lt (h : Cert.Pre_KernelIdeal m) (c : Dev nD) (t : Fin cfg0.N) (i : S1x16384.Idx) :
    (iblk m c 2 t i : BitVec 32).toNat < 16 := by
  obtain ⟨a, n, rfl⟩ : ∃ (a : Fin 1) (n : Fin 16384), i = ix2 a n := ⟨i 0, i 1, by funext a; fin_cases a <;> rfl⟩
  obtain rfl := Subsingleton.elim a 0
  unfold iblk
  rw [blk2]
  exact (congrArg BitVec.toNat (V_graphs m c n)).trans_lt (Cert.Range.graph_lt _ _ _ (h c).1 _)

theorem nodeProb_eq (h : Cert.Pre_KernelIdeal m) (c : Dev nD) (t : Fin cfg0.N) (n : Fin 16384) :
    nodeProb (iblk m c 0 t) (iblk m c 1 t) (iblk m c 2 t) (iblk m c 3 t) (block_le m h c t) (graphs_lt h c t) n
      = probOf h c n := by
  have e0 : ∀ i, iblk m c 0 t i = m ((c : Thread nD τ).loc main_arg2) i := fun i => by
    unfold iblk; rw [blk0]; exact congrFun (V_main_arg2 m c) i
  have e1 : ∀ i, iblk m c 1 t i = FloatOps.ofBits (F := Ideal) .f32 (lit0 (S501.rowMajor i)) := fun i => by
    unfold iblk; rw [blk1]; exact V_table m c i
  have e2 : iblk m c 2 t (ix2 0 n) = m ((c : Thread nD τ).loc main_arg1) (ix1 n) := by
    unfold iblk; rw [blk2]; exact V_graphs m c n
  have e3 : ∀ k, iblk m c 3 t (ix2 k n) = m ((c : Thread nD τ).loc main_arg0) (ix2 n k) := fun k => by
    unfold iblk; rw [blk3]; exact V_classes m c k n
  have eg : (⟨(iblk m c 2 t (ix2 0 n) : BitVec 32).toNat, graphs_lt h c t _⟩ : Fin 16) = graphOf h c n := by
    refine Fin.ext ?_
    show (iblk m c 2 t (ix2 0 n) : BitVec 32).toNat = _
    rw [e2]
    rfl
  unfold nodeProb probOf
  refine congrArg₂ Spec.prob ((e1 _).trans (congrArg (fun s => FloatOps.ofBits (F := Ideal) .f32 (lit0 (S501.rowMajor (ix1 s)))) (Fin.ext ?_))) (funext e3)
  show (iblk m c 0 t (ix2 _ 0) : BitVec 32).toNat = _
  rw [eg, e0]
  rfl

theorem out4_at (h : Cert.Pre_KernelIdeal m) (c : Dev nD) (t : Fin cfg0.N) (k : Fin 4) (n : Fin 16384) :
    (out4 (indices_of_pre m h) c t (ix2 k n) : EReal) = probOf h c n k := by
  unfold out4 runAt
  rw [run_probs, read_tiles, probsAt_node _ _ _ _ _ _ _ _ _ _ _ _ _ (block_le m h c t) (graphs_lt h c t), nodeProb_eq]

theorem out5_at (h : Cert.Pre_KernelIdeal m) (c : Dev nD) (t : Fin cfg0.N) (k : Fin 4) (n : Fin 16384) :
    (out5 (indices_of_pre m h) c t (ix2 k n) : EReal) = Spec.sample n.val (probOf h c n) k := by
  unfold out5 runAt
  rw [run_noise, read_tiles, noiseAt_node _ _ _ _ _ _ _ _ _ _ _ _ _ (block_le m h c t) (graphs_lt h c t), nodeProb_eq]

/-- The first output array ends at what the run leaves in its buffer. -/
theorem final4 (hH : Indices m) (c : Dev nD) : (dats hH 0 c).arrAt 4 cfg0.N = out4 hH c t0_0 := by
  refine (dats hH 0 c).arrAt_eq_of_cover 4 (out4 hH c t0_0) (fun t _ => ?_) fun i => ⟨t0_0, flush0_4 _, ?_⟩
  · obtain rfl := fin_N0 t
    show (cfg0.win 4).cut (grid0.coords t0_0) ((dats hH 0 c).after 4 t0_0) = _
    rw [after_out4]
    generalize out4 hH c t0_0 = v
    exact (blk4 v t0_0).symm
  · show i ∈ ((View.whole main_v2_0).slice (win0_4.rect t0_0)).set
    rw [View.set_slice_whole, Rect.mem_set_unit]
    exact fun a => ⟨(Nat.zero_mul _).trans_le (Nat.zero_le _), (i a).isLt.trans_eq ((Nat.zero_add _).symm.trans (congrArg (· + _) (Nat.zero_mul _).symm))⟩

/-- The second output array ends at what the run leaves in its buffer. -/
theorem final5 (hH : Indices m) (c : Dev nD) : (dats hH 0 c).arrAt 5 cfg0.N = out5 hH c t0_0 := by
  refine (dats hH 0 c).arrAt_eq_of_cover 5 (out5 hH c t0_0) (fun t _ => ?_) fun i => ⟨t0_0, flush0_5 _, ?_⟩
  · obtain rfl := fin_N0 t
    show (cfg0.win 5).cut (grid0.coords t0_0) ((dats hH 0 c).after 5 t0_0) = _
    rw [after_out5]
    generalize out5 hH c t0_0 = v
    exact (blk5 v t0_0).symm
  · show i ∈ ((View.whole main_v2_1).slice (win0_5.rect t0_0)).set
    rw [View.set_slice_whole, Rect.mem_set_unit]
    exact fun a => ⟨(Nat.zero_mul _).trans_le (Nat.zero_le _), (i a).isLt.trans_eq ((Nat.zero_add _).symm.trans (congrArg (· + _) (Nat.zero_mul _).symm))⟩

/-- The first result, written from the arguments. -/
def probs (h : Cert.Pre_KernelIdeal m) (c : Dev nD) : Buf (Elt Ideal) ((c : Thread nD τ).loc main_v3) :=
  fun i => probOf h c (i 0) (i 1)

/-- The second result, written from the arguments. -/
def samples (h : Cert.Pre_KernelIdeal m) (c : Dev nD) : Buf (Elt Ideal) ((c : Thread nD τ).loc main_v4) :=
  fun i => Spec.sample (i 0).val (probOf h c (i 0)) (i 1)

theorem tail_v3 (h : Cert.Pre_KernelIdeal m) (c : Dev nD) :
    Pipeline.afterTail₀ cfgs (dats (indices_of_pre m h)) 0 (V0 m) [hostOps1] c main_v3 = probs h c := by
  funext i
  obtain ⟨n, k, rfl⟩ : ∃ (n : Fin 16384) (k : Fin 4), i = ix2 n k := ⟨i 0, i 1, by funext a; fin_cases a <;> rfl⟩
  unfold Pipeline.afterTail₀
  have e : ∀ V : Valuation τ sig (Elt Ideal), StableHlo.after (List.flatten [hostOps1]) V (Proc.devRef .tc main_v3) (ix2 n k)
      = V (Proc.devRef .tc main_v2_0) (ix2 k n) := fun V => by
    unfold hostOps1
    after_reads_at
  rw [e]
  refine (congrFun (Pipeline.withArrays_arr _ winFacts0.arr_inj c (V0 m c) _ 4) (ix2 k n)).trans ?_
  rw [final4]
  exact out4_at h c t0_0 k n

theorem tail_v4 (h : Cert.Pre_KernelIdeal m) (c : Dev nD) :
    Pipeline.afterTail₀ cfgs (dats (indices_of_pre m h)) 0 (V0 m) [hostOps1] c main_v4 = samples h c := by
  funext i
  obtain ⟨n, k, rfl⟩ : ∃ (n : Fin 16384) (k : Fin 4), i = ix2 n k := ⟨i 0, i 1, by funext a; fin_cases a <;> rfl⟩
  unfold Pipeline.afterTail₀
  have e : ∀ V : Valuation τ sig (Elt Ideal), StableHlo.after (List.flatten [hostOps1]) V (Proc.devRef .tc main_v4) (ix2 n k)
      = V (Proc.devRef .tc main_v2_1) (ix2 k n) := fun V => by
    unfold hostOps1
    after_reads_at
  rw [e]
  refine (congrFun (Pipeline.withArrays_arr _ winFacts0.arr_inj c (V0 m c) _ 5) (ix2 k n)).trans ?_
  rw [final5]
  exact out5_at h c t0_0 k n

/-- Every execution of the kernel ends with the two results written from the arguments, and the arguments as launched. -/
theorem values (ρ : Dev nD → PrngReg) (h : Cert.Pre_KernelIdeal m) :
    θ_run defs (onTc (τ := τ) (main (F := Ideal))) ⟨m, fun _ => 0, ρ⟩ (fun r => ∀ c : Dev nD,
      r.2.mem ((c.tc : Thread nD τ).loc main_v3) = probs h c ∧ r.2.mem ((c.tc : Thread nD τ).loc main_v4) = samples h c) :=
  (θ_run defs _ _).mono (fun r hr c =>
    ⟨((hr.1 c).2 main_v3 (Pipeline.mem_restRefs_of main_v3 (by decide) (by decide))).trans (tail_v3 h c),
      ((hr.1 c).2 main_v4 (Pipeline.mem_restRefs_of main_v4 (by decide) (by decide))).trans (tail_v4 h c)⟩)
    (launched ρ (indices_of_pre m h))

end Cert.KernelIdeal.Body

end
-- ==== Proof.ReferenceGather.lean ====
/- The reference's two gathers, read at an index, and its word arithmetic on indices that are in range. -/
module

public import proofs.«01_k».proof.Proof.ReferenceRun
public import Idealize.ShloMosaic.Lib.Pointwise

@[expose] public section

noncomputable section

namespace Cert.ReferenceIdeal.Line

open Cert.ReferenceIdeal Cert.ReferenceIdeal.Gen
open Idealize Idealize.ShloMosaic

/-- A take of one word of a table of 501 per index: the index is read signed and clamped into the table. -/
theorem gather_word {α : Type} (x : S501.Idx → α) (idx : IVec S16x1 32) (g : Fin 16) :
    Host.gather gather_S501_S16x1_S16_n_0_n_n_0_1_1 x idx (ix1 g) = x (ix1 ⟨min (idx (ix2 g 0)).toInt.toNat 500, by omega⟩) := by
  unfold Host.gather
  congr 1
  funext a
  obtain rfl : a = 0 := Subsingleton.elim _ _
  refine Fin.ext ?_
  show GatherDims.start _ _ _ 0 + GatherDims.batchCoord _ _ 0 + GatherDims.offCoord _ _ 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S501_S16x1_S16_n_0_n_n_0_1_1.startIndexMap from List.mem_singleton.mpr rfl)]
  refine congrArg (fun i => min (idx i).toInt.toNat 500) ?_
  funext b
  fin_cases b <;> rfl

/-- A take of one 4×4 block of sixteen per index: the index is read signed and clamped into the sixteen. -/
theorem gather_block {α : Type} (x : S16x4x4.Idx → α) (idx : IVec S16384x1 32) (n : Fin 16384) (a b : Fin 4) :
    Host.gather gather_S16x4x4_S16384x1_S16384x4x4_12_0_n_n_0_1_144 x idx (ix3 n a b)
      = x (ix3 ⟨min (idx (ix2 n 0)).toInt.toNat 15, by omega⟩ a b) := by
  unfold Host.gather
  congr 1
  funext e
  refine Fin.ext ?_
  show GatherDims.start _ _ _ e + GatherDims.batchCoord _ _ e + GatherDims.offCoord _ _ e = _
  rw [GatherDims.batchCoord_eq_zero _ _ _ List.not_mem_nil, Nat.add_zero]
  fin_cases e
  · show GatherDims.start gather_S16x4x4_S16384x1_S16384x4x4_12_0_n_n_0_1_144 _ _ 0 + GatherDims.offCoord gather_S16x4x4_S16384x1_S16384x4x4_12_0_n_n_0_1_144 _ 0 = _
    rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x4x4_S16384x1_S16384x4x4_12_0_n_n_0_1_144.startIndexMap from List.mem_singleton.mpr rfl)]
    refine congrArg (fun i => min (idx i).toInt.toNat 15) ?_
    funext b
    fin_cases b <;> rfl
  · show GatherDims.start gather_S16x4x4_S16384x1_S16384x4x4_12_0_n_n_0_1_144 _ _ 1 + GatherDims.offCoord gather_S16x4x4_S16384x1_S16384x4x4_12_0_n_n_0_1_144 _ 1 = a.val
    unfold GatherDims.start
    rw [dif_neg (show (1 : Fin 3) ∉ gather_S16x4x4_S16384x1_S16384x4x4_12_0_n_n_0_1_144.startIndexMap from by decide), Nat.zero_add]
    rfl
  · show GatherDims.start gather_S16x4x4_S16384x1_S16384x4x4_12_0_n_n_0_1_144 _ _ 2 + GatherDims.offCoord gather_S16x4x4_S16384x1_S16384x4x4_12_0_n_n_0_1_144 _ 2 = b.val
    unfold GatherDims.start
    rw [dif_neg (show (2 : Fin 3) ∉ gather_S16x4x4_S16384x1_S16384x4x4_12_0_n_n_0_1_144.startIndexMap from by decide), Nat.zero_add]
    rfl

/-- A word below `2 ^ 31` is not negative. -/
theorem wrap_eq (w k : BitVec 32) (h : w.toNat < 2 ^ 31) :
    Scalar.select (IntOp.cmpi .slt w 0#32) (IntOp.addi w k) w = w := by
  have e : IntOp.cmpi .slt w 0#32 = 0#1 := by
    have hs : w.slt 0#32 = false := by
      rw [BitVec.slt_eq_decide, BitVec.toInt_eq_toNat_cond, if_pos (by omega)]
      simp
    show BitVec.ofBool (w.slt 0#32) = 0#1
    rw [hs]
    rfl
  rw [e]
  rfl

theorem toInt_small (w : BitVec 32) (h : w.toNat < 2 ^ 31) : w.toInt.toNat = w.toNat := by
  rw [BitVec.toInt_eq_toNat_cond, if_pos (by omega)]
  rfl

/-- A word below sixteen passes the bounds check. -/
theorem check_eq (w : BitVec 32) (h : w.toNat < 16) :
    IntOp.andi (IntOp.cmpi .sge w 0#32) (IntOp.cmpi .sle w 15#32) = 1#1 := by
  have e : w = BitVec.ofNat 32 (⟨w.toNat, h⟩ : Fin 16).val := by simp
  rw [e]
  generalize (⟨w.toNat, h⟩ : Fin 16) = g
  revert g
  decide

end Cert.ReferenceIdeal.Line

end
-- ==== Proof.ReferenceArgmax.lean ====
/- The reference's arg-max over a row of four, read as a one-hot: the winner of the row. -/
module

public import proofs.«01_k».proof.Proof.ReferenceRun
public import proofs.«01_k».proof.Proof.Spec
public import proofs.«01_k».proof.Proof.Consts
public import Idealize.ShloMosaic.Lib.Pointwise
public import Idealize.ShloMosaic.PureOps.Ideal.Laws
public import Mathlib.Tactic.Order

@[expose] public section

noncomputable section

namespace Cert.ReferenceIdeal.Line

open Cert.ReferenceIdeal Cert.ReferenceIdeal.Gen
open Idealize Idealize.ShloMosaic

/-! ## The row's elements, in order -/

/-- The positions that a row's reduction meets are the row's four, in order. -/
theorem positions (h : S16384x4.ReducesTo [1] S16384) (n : Fin 16384) :
    ((List.finRange S16384x4.numel).filter fun p => h.drop (S16384x4.rowMajor.symm p) = ix1 n)
      = (List.finRange 4).map fun k => S16384x4.rowMajor (ix2 n k) := by
  refine List.Perm.eq_of_pairwise (le := (· < ·)) (fun a b _ _ h h' => absurd h h'.asymm) ?_ ?_ ?_
  · exact (List.pairwise_lt_finRange _).filter _
  · rw [List.pairwise_map]
    refine (List.pairwise_lt_finRange 4).imp fun {a b} hab => ?_
    show (S16384x4.rowMajor (ix2 n a)).val < (S16384x4.rowMajor (ix2 n b)).val
    rw [Shape.rowMajor_val_two, Shape.rowMajor_val_two]
    show n.val * 4 + a.val < n.val * 4 + b.val
    exact Nat.add_lt_add_left hab _
  · refine (List.perm_ext_iff_of_nodup ((List.nodup_finRange _).filter _) ((List.nodup_finRange 4).map fun a b hab => ?_)).2 fun p => ?_
    · have := congrFun (S16384x4.rowMajor.injective hab) 1
      exact this
    · simp only [List.mem_filter, List.mem_finRange, true_and, decide_eq_true_eq, List.mem_map]
      constructor
      · intro e
        refine ⟨(S16384x4.rowMajor.symm p) 1, ?_⟩
        rw [← Equiv.eq_symm_apply]
        have e0 : (h.drop (S16384x4.rowMajor.symm p) 0).val = n.val := congrArg (fun j : S16384.Idx => (j 0).val) e
        rw [h.drop_apply_val_of_eq _ 0 0] at e0
        funext a
        fin_cases a
        · exact Fin.ext e0.symm
        · rfl
      · rintro ⟨k, rfl⟩
        rw [Equiv.symm_apply_apply]
        funext a
        fin_cases a
        exact Fin.ext (h.drop_apply_val_of_eq _ 0 0)

/-- The pairs that a row's reduction folds. -/
theorem pairs {α β : Type} (x : S16384x4.Idx → α) (y : S16384x4.Idx → β) (h : S16384x4.ReducesTo [1] S16384) (n : Fin 16384) :
    Host.argReduceFiber x y h (ix1 n) = (List.finRange 4).map fun k => (x (ix2 n k), y (ix2 n k)) := by
  rw [Host.argReduceFiber, positions, List.map_map]
  simp only [Function.comp_def, Equiv.symm_apply_apply]

/-! ## The fold -/

/-- The reducer keeps the first pair when its value is greater, or equal at a lower index. -/
theorem reducer_eq (p q : EReal × BitVec 32) :
    reducer_argmax_f32_i32 (F := Ideal) p q = if q.1 < p.1 ∨ (p.1 = q.1 ∧ p.2.slt q.2) then p else q := by
  obtain ⟨v, i⟩ := p
  obtain ⟨w, j⟩ := q
  have hs : ∀ (b : Bool) {α : Type} (x y : α), Scalar.select (BitVec.ofBool b) x y = if b then x else y := by
    intro b; cases b <;> intros <;> rfl
  have ho : ∀ b b' : Bool, IntOp.ori (BitVec.ofBool b) (BitVec.ofBool b') = BitVec.ofBool (b || b') := by decide
  have ha : ∀ b b' : Bool, IntOp.andi (BitVec.ofBool b) (BitVec.ofBool b') = BitVec.ofBool (b && b') := by decide
  have e1 : FloatOps.cmpf (F := Ideal) (φ := .f32) .ogt v w = BitVec.ofBool (decide (w < v)) := rfl
  have e2 : FloatOps.cmpf (F := Ideal) (φ := .f32) .une v v = BitVec.ofBool false := by simp [Ideal.cmpf_def, Ideal.cmp]
  have e3 : FloatOps.cmpf (F := Ideal) (φ := .f32) .oeq v w = BitVec.ofBool (decide (v = w)) := rfl
  have e4 : IntOp.cmpi .slt i j = BitVec.ofBool (i.slt j) := rfl
  unfold reducer_argmax_f32_i32
  dsimp only
  rw [e1, e2, e3, e4, ho, ha, ho, hs, hs]
  simp only [Bool.or_false, Bool.or_eq_true, Bool.and_eq_true, decide_eq_true_eq]
  by_cases h : w < v
  · simp [h]
  · by_cases h' : v = w
    · subst h'
      by_cases h'' : i.slt j <;> simp [h'']
    · simp [h, h']

/-- The winner is one. -/
theorem wins_unique {z : Fin 4 → EReal} {c d : Fin 4} (hc : Spec.Wins z c) (hd : Spec.Wins z d) : c = d := by
  by_contra hne
  rcases hc d (Ne.symm hne) with h | ⟨h, e⟩ <;> rcases hd c hne with h' | ⟨h', e'⟩
  · exact absurd h h'.asymm
  · exact absurd e' h.ne
  · exact absurd e h'.ne
  · exact absurd h h'.asymm

/-- Folding the reducer over four values from the least gives the winner's index. -/
theorem fold_wins (z : Fin 4 → EReal) : ∃ c : Fin 4, Spec.Wins z c ∧
    (((List.finRange 4).map fun k => (z k, BitVec.ofNat 32 k.val)).foldl (reducer_argmax_f32_i32 (F := Ideal)) ((⊥ : EReal), 0#32)).2
      = BitVec.ofNat 32 c.val := by
  have hl : List.finRange 4 = [0, 1, 2, 3] := rfl
  rw [hl]
  simp only [List.map_cons, List.map_nil, List.foldl_cons, List.foldl_nil]
  -- the first value replaces the least: a least value is itself the least
  have h0 : reducer_argmax_f32_i32 (F := Ideal) ((⊥ : EReal), 0#32) (z 0, BitVec.ofNat 32 (0 : Fin 4).val) = (z 0, BitVec.ofNat 32 (0 : Fin 4).val) := by
    rw [reducer_eq, if_neg]
    rintro (h | ⟨-, h⟩)
    · exact not_lt_bot h
    · exact absurd (show (0#32).slt 0#32 = true from h) (by decide)
  -- a later value replaces an earlier one exactly when it is greater
  have hk : ∀ a b : Fin 4, a < b → ∀ v w : EReal, reducer_argmax_f32_i32 (F := Ideal) (v, BitVec.ofNat 32 a.val) (w, BitVec.ofNat 32 b.val)
      = if w ≤ v then (v, BitVec.ofNat 32 a.val) else (w, BitVec.ofNat 32 b.val) := by
    intro a b hab v w
    have hs : (BitVec.ofNat 32 a.val).slt (BitVec.ofNat 32 b.val) = true := by revert a b; decide
    rw [reducer_eq]
    simp only [hs, and_true, le_iff_lt_or_eq, eq_comm (a := w)]
  rw [h0, hk 0 1 (by decide)]
  have win : ∀ c : Fin 4, (∀ d, d < c → z d < z c) → (∀ d, c < d → z d ≤ z c) → Spec.Wins z c := by
    intro c hb ha d hd
    rcases lt_or_gt_of_ne hd with h | h
    · exact Or.inl (hb d h)
    · exact (ha d h).lt_or_eq.imp id fun e => ⟨h, e.symm⟩
  have steps : ∀ d : Fin 4, d < 3 → ∀ e : Fin 4, e ≤ d + 1 → e ≤ d ∨ e = d + 1 := by decide
  have above : ∀ d : Fin 4, d < 3 → d < d + 1 := by decide
  have below : ∀ d : Fin 4, d < 3 → ∀ e : Fin 4, e < d + 1 → e ≤ d := by decide
  have two : ∀ c d : Fin 4, d < 3 → c ≤ d → ∀ v : EReal, v = z c → (∀ e, e < c → z e < z c) → (∀ e, c < e → e ≤ d → z e ≤ z c) →
      ∃ c' : Fin 4, c' ≤ d + 1 ∧ (if z (d + 1) ≤ v then (v, BitVec.ofNat 32 c.val) else (z (d + 1), BitVec.ofNat 32 (d + 1).val))
        = (z c', BitVec.ofNat 32 c'.val) ∧ (∀ e, e < c' → z e < z c') ∧ (∀ e, c' < e → e ≤ d + 1 → z e ≤ z c') := by
    intro c d hd3 hcd v hv hb ha
    subst hv
    have hstep : ∀ e : Fin 4, e ≤ d + 1 → e ≤ d ∨ e = d + 1 := steps d hd3
    have hlt : d < d + 1 := above d hd3
    have hback : ∀ e : Fin 4, e < d + 1 → e ≤ d := below d hd3
    split
    · rename_i h
      refine ⟨c, hcd.trans hlt.le, rfl, hb, fun e he hed => ?_⟩
      rcases hstep e hed with h' | rfl
      · exact ha e he h'
      · exact h
    · rename_i h
      refine ⟨d + 1, le_rfl, rfl, fun e he => ?_, fun e he hed => absurd he hed.not_gt⟩
      refine lt_of_le_of_lt ?_ (not_le.1 h)
      rcases lt_trichotomy e c with h' | rfl | h'
      · exact (hb e h').le
      · exact le_rfl
      · exact ha e h' (hback e he)
  obtain ⟨c1, hc1, e1, hb1, ha1⟩ := two 0 0 (by decide) le_rfl (z 0) rfl (fun e he => absurd he (Fin.not_lt_zero e))
    (fun e he hed => absurd he hed.not_gt)
  rw [show (0 : Fin 4) + 1 = 1 from rfl] at hc1 e1 ha1
  rw [e1, hk c1 2 (lt_of_le_of_lt hc1 (by decide))]
  obtain ⟨c2, hc2, e2, hb2, ha2⟩ := two c1 1 (by decide) hc1 (z c1) rfl hb1 ha1
  rw [show (1 : Fin 4) + 1 = 2 from rfl] at hc2 e2 ha2
  rw [e2, hk c2 3 (lt_of_le_of_lt hc2 (by decide))]
  obtain ⟨c3, hc3, e3, hb3, ha3⟩ := two c2 2 (by decide) hc2 (z c2) rfl hb2 ha2
  rw [show (2 : Fin 4) + 1 = 3 from rfl] at hc3 e3 ha3
  rw [e3]
  exact ⟨c3, win c3 hb3 fun e he => ha3 e he (Fin.le_last e), rfl⟩

theorem uitofp_one : (FloatOps.uitofp (F := Ideal) .f32 1#1 : EReal) = 1 := by
  show (((1#1 : BitVec 1).toNat : ℝ) : EReal) = 1
  simp

theorem uitofp_zero : (FloatOps.uitofp (F := Ideal) .f32 0#1 : EReal) = 0 := by
  show (((0#1 : BitVec 1).toNat : ℝ) : EReal) = 0
  simp

/-- The one-hot of a row's arg-max is the winner of the row. -/
theorem argmax_at (z : FVec Ideal S16384x4 .f32) (h : S16384x4.ReducesTo [1] S16384) (hu : 0 < S_.numel) (n : Fin 16384) (k : Fin 4) :
    (FloatOps.uitofp (F := Ideal) .f32 (IntOp.cmpi .eq
      (Host.argReduce reducer_argmax_f32_i32 z (iotaInDim S16384x4 32 1) (constant S_ .f32 0xFF800000#32)
        (constantI S_ 32 0#32) h hu (ix1 n)).2 (BitVec.ofNat 32 k.val)) : EReal)
      = Spec.hot (fun c => z (ix2 n c)) k := by
  obtain ⟨c, hc, e⟩ := fold_wins fun c => z (ix2 n c)
  have hb : (constant (F := Ideal) S_ .f32 0xFF800000#32 (Shape.Idx.first hu) : EReal) = ⊥ := Consts.ofBits_neg_inf
  have hf : (Host.argReduce reducer_argmax_f32_i32 z (iotaInDim S16384x4 32 1) (constant S_ .f32 0xFF800000#32)
        (constantI S_ 32 0#32) h hu (ix1 n)).2 = BitVec.ofNat 32 c.val := by
    rw [Ideal.argReduce_eq_reduce2, Host.reduce2_eq_foldl_fiber, pairs, hb]
    exact e
  rw [hf]
  have hi : ∀ c k : Fin 4, IntOp.cmpi .eq (BitVec.ofNat 32 c.val) (BitVec.ofNat 32 k.val) = if c = k then 1#1 else 0#1 := by decide
  rw [hi]
  unfold Spec.hot
  by_cases hk : c = k
  · subst hk
    rw [if_pos rfl, if_pos hc]
    exact uitofp_one
  · rw [if_neg hk, if_neg fun hw => hk (wins_unique hc hw)]
    exact uitofp_zero

end Cert.ReferenceIdeal.Line

end
-- ==== Proof.ReferenceProbs.lean ====
/- The reference's class probabilities: its straight line of operations from the table to the product, read at an index. -/
module

public import proofs.«01_k».proof.Proof.ReferenceGather
public import proofs.«01_k».proof.Proof.ReferenceArgmax

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

/-- The operations from position `a`, `n` of them. -/
abbrev part (a n : ℕ) : List (HloOp τ sig (Elt Ideal)) := (ops.drop a).take n

variable (V : Valuation τ sig (Elt Ideal))

/-! ## The scalar steps -/

/-- A timestep from 0 to 500, divided by 500, multiplied by 500 and rounded to an integer, is the timestep. -/
theorem step_eq (t : BitVec 32) (h : t.toNat ≤ 500) :
    (FloatOps.fptosi (F := Ideal) (φ := .f32) 32 (Ideal.liftRound Ideal.roundHalfEven
      (Ideal.div (FloatOps.sitofp (F := Ideal) .f32 t) (Ideal.ofBits .f32 1140457472#32) * Ideal.ofBits .f32 1140457472#32))) = t := by
  have hi : t.toInt = (t.toNat : ℤ) := by rw [BitVec.toInt_eq_toNat_cond, if_pos (by omega)]
  have hs : (FloatOps.sitofp (F := Ideal) .f32 t : EReal) = ((t.toNat : ℝ) : EReal) := by
    show ((t.toInt : ℝ) : EReal) = _
    rw [hi]
    push_cast
    rfl
  have e : (((t.toNat : ℝ) : EReal) * ((1 / 500 : ℝ) : EReal) * ((500 : ℝ) : EReal)) = ((t.toNat : ℝ) : EReal) := by
    rw [← EReal.coe_mul, ← EReal.coe_mul]
    congr 1
    ring
  have hr : Ideal.roundHalfEven (t.toNat : ℝ) = (t.toNat : ℤ) := by
    unfold Ideal.roundHalfEven
    simp
  rw [hs, Cert.Consts.ofBits_500, Ideal.div_coe (by norm_num), e, Ideal.liftRound_coe, hr]
  show Ideal.fptosi 32 (((t.toNat : ℤ) : ℝ) : EReal) = t
  unfold Ideal.fptosi
  rw [Ideal.toIntClamped_coe, if_pos (by positivity), Int.floor_intCast]
  have : max (-((2 ^ (32 - 1) : ℕ) : ℤ)) (min (((2 ^ (32 - 1) : ℕ) : ℤ) - 1) (t.toNat : ℤ)) = (t.toNat : ℤ) := by
    norm_num; omega
  rw [this]
  simp

/-- The diagonal's mark. -/
theorem eye_eq (a b : Fin 4) :
    (FloatOps.uitofp (F := Ideal) .f32 (IntOp.cmpi .eq (IntOp.addi (BitVec.ofNat 32 a.val) 0#32) (BitVec.ofNat 32 b.val)) : EReal)
      = if a = b then 1 else 0 := by
  have hi : ∀ a b : Fin 4, IntOp.cmpi .eq (IntOp.addi (BitVec.ofNat 32 a.val) 0#32) (BitVec.ofNat 32 b.val)
      = if a = b then 1#1 else 0#1 := by decide
  rw [hi]
  split
  · exact uitofp_one
  · exact uitofp_zero

theorem quarter_eq : Ideal.div 1 (Ideal.ofBits .f32 1082130432#32) = ((1 / 4 : ℝ) : EReal) := by
  rw [Cert.Consts.ofBits_four, Ideal.div_coe (by norm_num), one_mul]

/-! ## The stages -/

/-- A graph's alpha: the table's entry at its timestep. -/
theorem alpha_read (g : Fin 16) (s : Fin 501) (hs : (V (Proc.devRef .tc main_arg2) (ix2 g 0) : BitVec 32).toNat = s.val) :
    (after (part 0 20) V (Proc.devRef .tc main_v14) (ix1 g) : EReal)
      = FloatOps.ofBits (F := Ideal) .f32 (lit0 (S501.rowMajor (ix1 s))) := by
  after_reads_at
  rw [gather_word]
  pointwise
  have h5 : (V (Proc.devRef .tc main_arg2) (ix2 g 0) : BitVec 32).toNat ≤ 500 := by omega
  refine congrArg (fun s => Ideal.ofBits .f32 (lit0 (S501.rowMajor (ix1 s)))) (Fin.ext ?_)
  show min (BitVec.toInt _).toNat 500 = s.val
  rw [step_eq _ h5, wrap_eq _ _ (by omega), toInt_small _ (by omega), hs]
  omega

/-- A graph's transition from class `b` to class `a`. -/
theorem transition_read (g : Fin 16) (al : EReal) (h : V (Proc.devRef .tc main_v14) (ix1 g) = al) (a b : Fin 4) :
    (after (part 20 26) V (Proc.devRef .tc main_v36) (ix3 g a b) : EReal) = al * (if a = b then 1 else 0) + Spec.rest al := by
  after_reads_at
  rw [eye_eq, quarter_eq, h]
  rfl

/-- A node's transition is its graph's. -/
theorem take_read (n : Fin 16384) (g : Fin 16) (hg : (V (Proc.devRef .tc main_arg1) (ix1 n) : BitVec 32).toNat = g.val) (a b : Fin 4) :
    (after (part 46 23) V (Proc.devRef .tc main_v37) (ix3 n a b) : EReal) = V (Proc.devRef .tc main_v36) (ix3 g a b) := by
  after_reads_at
  rw [gather_block]
  pointwise
  have hw : (V (Proc.devRef .tc main_arg1) (ix1 n) : BitVec 32).toNat < 16 := by omega
  simp only [wrap_eq _ _ (show (V (Proc.devRef .tc main_arg1) (ix1 n) : BitVec 32).toNat < 2 ^ 31 by omega), check_eq _ hw]
  rw [show ∀ (s : Finset (Fin 1)), Finset.fold IntOp.andi (1#1) (fun _ => 1#1) s = 1#1 by decide]
  refine (congrArg (fun g => V (Proc.devRef .tc main_v36) (ix3 g a b)) (Fin.ext ?_ : _ = g))
  show min (BitVec.toInt _).toNat 15 = g.val
  rw [toInt_small _ (by omega), hg]
  omega

/-- The product of a node's transition and its classes. -/
theorem product_read (n : Fin 16384) (a : Fin 4) (t x : Fin 4 → EReal)
    (ht : ∀ b, V (Proc.devRef .tc main_v37) (ix3 n a b) = t b) (hx : ∀ b, V (Proc.devRef .tc main_arg0) (ix2 n b) = x b) :
    (after (part 69 1) V (Proc.devRef .tc main_v38) (ix2 n a) : EReal) = ∑ b : Fin 4, t b * x b := by
  after_reads_at
  simp only [ht, hx]

/-- A row of the transition against the classes is the class probability. -/
theorem row_eq (al : EReal) (x : Fin 4 → EReal) (a : Fin 4) :
    ∑ b : Fin 4, (al * (if a = b then 1 else 0) + Spec.rest al) * x b = Spec.prob al x a := by
  unfold Spec.prob
  rw [Fin.sum_univ_four]
  fin_cases a <;> simp <;> abel

/-! ## Together -/

/-- What the first 70 operations leave in the first result, from the arguments. -/
theorem probs_read (n : Fin 16384) (g : Fin 16) (s : Fin 501)
    (hg : (V (Proc.devRef .tc main_arg1) (ix1 n) : BitVec 32).toNat = g.val)
    (hs : (V (Proc.devRef .tc main_arg2) (ix2 g 0) : BitVec 32).toNat = s.val) (a : Fin 4) :
    (after (part 0 70) V (Proc.devRef .tc main_v38) (ix2 n a) : EReal)
      = Spec.prob (FloatOps.ofBits (F := Ideal) .f32 (lit0 (S501.rowMajor (ix1 s)))) (fun k => V (Proc.devRef .tc main_arg0) (ix2 n k)) a := by
  have e : (part 0 70 : List (HloOp τ sig (Elt Ideal))) = part 0 20 ++ part 20 26 ++ part 46 23 ++ part 69 1 := rfl
  rw [e, after_append, after_append, after_append]
  have k1 : ∀ U : Valuation τ sig (Elt Ideal), after (part 20 26) U (Proc.devRef .tc main_arg1) = U (Proc.devRef .tc main_arg1) := fun U => by after_reads_simp
  have k2 : ∀ U : Valuation τ sig (Elt Ideal), after (part 0 20) U (Proc.devRef .tc main_arg1) = U (Proc.devRef .tc main_arg1) := fun U => by after_reads_simp
  have x1 : ∀ U : Valuation τ sig (Elt Ideal), after (part 46 23) U (Proc.devRef .tc main_arg0) = U (Proc.devRef .tc main_arg0) := fun U => by after_reads_simp
  have x2 : ∀ U : Valuation τ sig (Elt Ideal), after (part 20 26) U (Proc.devRef .tc main_arg0) = U (Proc.devRef .tc main_arg0) := fun U => by after_reads_simp
  have x3 : ∀ U : Valuation τ sig (Elt Ideal), after (part 0 20) U (Proc.devRef .tc main_arg0) = U (Proc.devRef .tc main_arg0) := fun U => by after_reads_simp
  rw [product_read _ n a _ (fun k => V (Proc.devRef .tc main_arg0) (ix2 n k))
    (fun b => by rw [take_read _ n g (by rw [k1, k2]; exact hg), transition_read _ g _ (alpha_read V g s hs)])
    (fun b => by rw [x1, x2, x3])]
  exact row_eq _ _ a

end Cert.ReferenceIdeal.Line

end
-- ==== Proof.ReferenceDraws.lean ====
/- The reference's random words: its five groups of four rounds and a key, read at an index, mix the counter of a node's
   class as the kernel does. -/
module

public import proofs.«01_k».proof.Proof.ReferenceProbs
public import proofs.«01_k».proof.Proof.Threefry
public import Idealize.ShloMosaic.Lib.KernelVsHost

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

/-- The three key words: 0, 1, and their combination with the cipher's constant. -/
structure Keys (V : Valuation τ sig (Elt Ideal)) : Prop where
  zero : V (Proc.devRef .tc main_call2_call0_v4) ix0 = 0#32
  one : V (Proc.devRef .tc main_call2_call0_v6) ix0 = 1#32
  both : V (Proc.devRef .tc main_call2_call0_call0_v1) ix0 = 466688987#32

variable (V : Valuation τ sig (Elt Ideal)) (n : Fin 16384) (c : Fin 4) (p : BitVec 32 × BitVec 32)

/-- A key added in two steps is the two added at once. -/
theorem add_key {k j l : BitVec 32} (h : k + j = l) (x : BitVec 32) : IntOp.addi (IntOp.addi x k) j = IntOp.addi x l :=
  (BitVec.add_assoc x k j).trans (congrArg (x + ·) h)

/-- Group 1: four rounds, then a key. -/
theorem group1 (hk : Keys V) (h0 : V (Proc.devRef .tc main_call2_call0_call0_v3) (ix2 n c) = p.1)
    (h1 : V (Proc.devRef .tc main_call2_call0_call0_v5) (ix2 n c) = p.2) :
    Keys (after (part 119 43) V)
      ∧ after (part 119 43) V (Proc.devRef .tc main_call2_call0_call0_v35) (ix2 n c) = (Threefry.inject 1#32 466688988#32 (Threefry.roundsA p)).1
      ∧ after (part 119 43) V (Proc.devRef .tc main_call2_call0_call0_v39) (ix2 n c) = (Threefry.inject 1#32 466688988#32 (Threefry.roundsA p)).2 := by
  refine ⟨⟨?_, ?_, ?_⟩, ?_, ?_⟩
  · after_reads_at
    exact hk.zero
  · after_reads_at
    exact hk.one
  · after_reads_at
    exact hk.both
  all_goals
    after_reads_at
    simp only [h0, h1, hk.zero, hk.one, hk.both, add_key (show 466688987#32 + 1#32 = 466688988#32 from rfl), shli_unit .host .vector, shrui_unit .host .vector]
    rfl

/-- Group 2: four rounds, then a key. -/
theorem group2 (hk : Keys V) (h0 : V (Proc.devRef .tc main_call2_call0_call0_v35) (ix2 n c) = p.1)
    (h1 : V (Proc.devRef .tc main_call2_call0_call0_v39) (ix2 n c) = p.2) :
    Keys (after (part 162 43) V)
      ∧ after (part 162 43) V (Proc.devRef .tc main_call2_call0_call0_v69) (ix2 n c) = (Threefry.inject 466688987#32 2#32 (Threefry.roundsB p)).1
      ∧ after (part 162 43) V (Proc.devRef .tc main_call2_call0_call0_v73) (ix2 n c) = (Threefry.inject 466688987#32 2#32 (Threefry.roundsB p)).2 := by
  refine ⟨⟨?_, ?_, ?_⟩, ?_, ?_⟩
  · after_reads_at
    exact hk.zero
  · after_reads_at
    exact hk.one
  · after_reads_at
    exact hk.both
  all_goals
    after_reads_at
    simp only [h0, h1, hk.zero, hk.one, hk.both, add_key (show 0#32 + 2#32 = 2#32 from rfl), shli_unit .host .vector, shrui_unit .host .vector]
    rfl

/-- Group 3: four rounds, then a key. -/
theorem group3 (hk : Keys V) (h0 : V (Proc.devRef .tc main_call2_call0_call0_v69) (ix2 n c) = p.1)
    (h1 : V (Proc.devRef .tc main_call2_call0_call0_v73) (ix2 n c) = p.2) :
    Keys (after (part 205 43) V)
      ∧ after (part 205 43) V (Proc.devRef .tc main_call2_call0_call0_v103) (ix2 n c) = (Threefry.inject 0#32 4#32 (Threefry.roundsA p)).1
      ∧ after (part 205 43) V (Proc.devRef .tc main_call2_call0_call0_v107) (ix2 n c) = (Threefry.inject 0#32 4#32 (Threefry.roundsA p)).2 := by
  refine ⟨⟨?_, ?_, ?_⟩, ?_, ?_⟩
  · after_reads_at
    exact hk.zero
  · after_reads_at
    exact hk.one
  · after_reads_at
    exact hk.both
  all_goals
    after_reads_at
    simp only [h0, h1, hk.zero, hk.one, hk.both, add_key (show 1#32 + 3#32 = 4#32 from rfl), shli_unit .host .vector, shrui_unit .host .vector]
    rfl

/-- Group 4: four rounds, then a key. -/
theorem group4 (hk : Keys V) (h0 : V (Proc.devRef .tc main_call2_call0_call0_v103) (ix2 n c) = p.1)
    (h1 : V (Proc.devRef .tc main_call2_call0_call0_v107) (ix2 n c) = p.2) :
    Keys (after (part 248 43) V)
      ∧ after (part 248 43) V (Proc.devRef .tc main_call2_call0_call0_v137) (ix2 n c) = (Threefry.inject 1#32 466688991#32 (Threefry.roundsB p)).1
      ∧ after (part 248 43) V (Proc.devRef .tc main_call2_call0_call0_v141) (ix2 n c) = (Threefry.inject 1#32 466688991#32 (Threefry.roundsB p)).2 := by
  refine ⟨⟨?_, ?_, ?_⟩, ?_, ?_⟩
  · after_reads_at
    exact hk.zero
  · after_reads_at
    exact hk.one
  · after_reads_at
    exact hk.both
  all_goals
    after_reads_at
    simp only [h0, h1, hk.zero, hk.one, hk.both, add_key (show 466688987#32 + 4#32 = 466688991#32 from rfl), shli_unit .host .vector, shrui_unit .host .vector]
    rfl

/-- Group 5: four rounds, then a key. -/
theorem group5 (hk : Keys V) (h0 : V (Proc.devRef .tc main_call2_call0_call0_v137) (ix2 n c) = p.1)
    (h1 : V (Proc.devRef .tc main_call2_call0_call0_v141) (ix2 n c) = p.2) :
    Keys (after (part 291 43) V)
      ∧ after (part 291 43) V (Proc.devRef .tc main_call2_call0_v18_0) (ix2 n c) = (Threefry.inject 466688987#32 5#32 (Threefry.roundsA p)).1
      ∧ after (part 291 43) V (Proc.devRef .tc main_call2_call0_v18_1) (ix2 n c) = (Threefry.inject 466688987#32 5#32 (Threefry.roundsA p)).2 := by
  refine ⟨⟨?_, ?_, ?_⟩, ?_, ?_⟩
  · after_reads_at
    exact hk.zero
  · after_reads_at
    exact hk.one
  · after_reads_at
    exact hk.both
  all_goals
    after_reads_at
    simp only [h0, h1, hk.zero, hk.one, hk.both, add_key (show 0#32 + 5#32 = 5#32 from rfl), shli_unit .host .vector, shrui_unit .host .vector]
    rfl

end Cert.ReferenceIdeal.Line

end
-- ==== Proof.ReferenceEntry.lean ====
/- The words the reference's mixing starts from: its two key words, and each class's counter split into two halves. -/
module

public import proofs.«01_k».proof.Proof.ReferenceDraws

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

variable (V : Valuation τ sig (Elt Ideal)) (n : Fin 16384) (c : Fin 4)

/-- The seed's high half is zero and its low half is one. -/
theorem seed_high : after (part 70 14) V (Proc.devRef .tc main_v45) (ix1 0) = 0#32 := by
  after_reads_at
  decide

theorem seed_low : after (part 70 14) V (Proc.devRef .tc main_v48) (ix1 0) = 1#32 := by
  after_reads_at
  decide

/-- The seed's two words joined. -/
theorem seed_zero (h : V (Proc.devRef .tc main_v45) (ix1 0) = 0#32) :
    after (part 84 1) V (Proc.devRef .tc main_v49) (ix1 0) = 0#32 := by
  after_reads_at
  exact h

theorem seed_one (h : V (Proc.devRef .tc main_v48) (ix1 0) = 1#32) :
    after (part 84 1) V (Proc.devRef .tc main_v49) (ix1 1) = 1#32 := by
  after_reads_at
  exact h

/-- The counter of a class, as 64 bits: `4 n + c`. -/
theorem counter (n c : ℕ) : IntOp.addi (IntOp.muli 4#64 (BitVec.ofNat 64 n)) (IntOp.muli 1#64 (BitVec.ofNat 64 c)) = BitVec.ofNat 64 (4 * n + c) := by
  show 4#64 * BitVec.ofNat 64 n + 1#64 * BitVec.ofNat 64 c = _
  apply BitVec.eq_of_toNat_eq
  simp only [BitVec.toNat_add, BitVec.toNat_mul, BitVec.toNat_ofNat]
  omega

/-- Its low word. -/
theorem counter_low (k : ℕ) : BitVec.setWidth 32 (BitVec.ofNat 64 k) = BitVec.ofNat 32 k := by
  apply BitVec.eq_of_toNat_eq
  simp only [BitVec.toNat_setWidth, BitVec.toNat_ofNat]
  omega

/-- Its high word is zero. -/
theorem counter_high (k : ℕ) (hk : k < 65536) : BitVec.setWidth 32 (IntOp.shrui .host (BitVec.ofNat 64 k) 32#64) = 0#32 := by
  have e : IntOp.shrui .host (BitVec.ofNat 64 k) 32#64 = BitVec.ofNat 64 k >>> 32 := rfl
  rw [e]
  apply BitVec.eq_of_toNat_eq
  simp only [BitVec.toNat_setWidth, BitVec.toNat_ushiftRight, BitVec.toNat_ofNat, Nat.shiftRight_eq_div_pow]
  omega

/-- The mixing starts from the counter's two words and the keys. -/
theorem entry (h0 : V (Proc.devRef .tc main_v49) (ix1 0) = 0#32) (h1 : V (Proc.devRef .tc main_v49) (ix1 1) = 1#32) :
    Keys (after (part 85 34) V)
      ∧ after (part 85 34) V (Proc.devRef .tc main_call2_call0_call0_v3) (ix2 n c)
          = (Threefry.inject 0#32 1#32 (0#32, BitVec.ofNat 32 (4 * n.val + c.val))).1
      ∧ after (part 85 34) V (Proc.devRef .tc main_call2_call0_call0_v5) (ix2 n c)
          = (Threefry.inject 0#32 1#32 (0#32, BitVec.ofNat 32 (4 * n.val + c.val))).2 := by
  refine ⟨⟨?_, ?_, ?_⟩, ?_, ?_⟩
  · after_reads_at
    exact h0
  · after_reads_at
    exact h1
  · after_reads_at
    simp only [h0, h1]
    rfl
  · after_reads_at
    rw [counter, counter_high _ (by omega), h0]
    rfl
  · after_reads_at
    rw [counter, counter_low, h1]
    rfl

end Cert.ReferenceIdeal.Line

end
-- ==== Proof.ReferenceScores.lean ====
/- The reference's scores, read at an index: the share of a class, the noise of its random word, and the sum. -/
module

public import proofs.«01_k».proof.Proof.ReferenceProbs
public import proofs.«01_k».proof.Proof.ReferenceArgmax
public import Idealize.ShloMosaic.Lib.KernelVsHost

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

variable (V : Valuation τ sig (Elt Ideal)) (n : Fin 16384) (c : Fin 4)

/-- The share of a class. -/
theorem share_read (p : Fin 4 → EReal) (h : ∀ d, V (Proc.devRef .tc main_v38) (ix2 n d) = p d) :
    after (part 70 14) V (Proc.devRef .tc main_v42) (ix2 n c) = Ideal.div (p c) (∑ d, p d) := by
  after_reads_at
  simp only [h]

/-- The logarithm of a share, and the bounds of the uniform numbers. -/
theorem log_read (x : EReal) (h : V (Proc.devRef .tc main_v42) (ix2 n c) = x) :
    after (part 85 34) V (Proc.devRef .tc main_v52) (ix2 n c) = Ideal.log (x + Ideal.ofBits .f32 0x2B8CBCCC#32) := by
  after_reads_at
  simp only [h]

theorem low_read : after (part 85 34) V (Proc.devRef .tc main_call2_call0_v1) (ix2 0 0) = Ideal.ofBits .f32 0x00800000#32 := by
  after_reads_at

theorem high_read : after (part 85 34) V (Proc.devRef .tc main_call2_call0_v2) (ix2 0 0) = Ideal.ofBits .f32 0x3F800000#32 := by
  after_reads_at
  exact Consts.ofBits_one

/-- The uniform number of a random word. -/
theorem uniform_read (w : BitVec 32 × BitVec 32) (h0 : V (Proc.devRef .tc main_call2_call0_v18_0) (ix2 n c) = w.1)
    (h1 : V (Proc.devRef .tc main_call2_call0_v18_1) (ix2 n c) = w.2)
    (hl : V (Proc.devRef .tc main_call2_call0_v1) (ix2 0 0) = Ideal.ofBits .f32 0x00800000#32)
    (hh : V (Proc.devRef .tc main_call2_call0_v2) (ix2 0 0) = Ideal.ofBits .f32 0x3F800000#32) :
    after (part 334 18) V (Proc.devRef .tc main_call2_v0) (ix2 n c) = Spec.uniform (IntOp.xori w.1 w.2) := by
  after_reads_at
  simp only [h0, h1, hl, hh, shrui_unit .host .vector, Spec.uniform, Consts.ofBits_one]
  rfl

/-- The score: the noise of a uniform number plus the logarithm of the share. -/
theorem score_read (u l : EReal) (hu : V (Proc.devRef .tc main_call2_v0) (ix2 n c) = u)
    (hl : V (Proc.devRef .tc main_v52) (ix2 n c) = l) :
    after (part 352 5) V (Proc.devRef .tc main_v54) (ix2 n c) = -Ideal.log (-Ideal.log u) + l := by
  after_reads_at
  simp only [hu, hl]

/-- The sampled class: the winner of the scores. -/
theorem winner_read (z : Fin 4 → EReal) (h : ∀ d, V (Proc.devRef .tc main_v54) (ix2 n d) = z d) :
    after (part 357 11) V (Proc.devRef .tc main_v56) (ix2 n c) = Spec.hot z c := by
  after_reads_at
  rw [show z = fun d => V (Proc.devRef .tc main_v54) (ix2 n d) from funext fun d => (h d).symm]
  exact argmax_at _ _ _ n c

/-- The logarithms stay while the random words are mixed, and the probabilities to the end. -/
theorem log_kept : after (part 119 233) V (Proc.devRef .tc main_v52) = V (Proc.devRef .tc main_v52) := by
  after_reads_simp

theorem low_kept : after (part 119 215) V (Proc.devRef .tc main_call2_call0_v1) = V (Proc.devRef .tc main_call2_call0_v1) := by
  after_reads_simp

theorem high_kept : after (part 119 215) V (Proc.devRef .tc main_call2_call0_v2) = V (Proc.devRef .tc main_call2_call0_v2) := by
  after_reads_simp

theorem share_kept : after (part 84 1) V (Proc.devRef .tc main_v42) = V (Proc.devRef .tc main_v42) := by
  after_reads_simp

theorem probs_kept : after (part 70 298) V (Proc.devRef .tc main_v38) = V (Proc.devRef .tc main_v38) := by
  after_reads_simp

end Cert.ReferenceIdeal.Line

end
-- ==== Proof.ReferenceValue.lean ====
/- The reference's results: its probabilities and its sampled classes, as the mathematics of a node. -/
module

public import proofs.«01_k».proof.Proof.ReferenceEntry
public import proofs.«01_k».proof.Proof.ReferenceScores

@[expose] public section

set_option maxRecDepth 65536

noncomputable section

namespace Cert.ReferenceIdeal.Line

open Cert.ReferenceIdeal Cert.ReferenceIdeal.Gen
open Idealize Idealize.ShloMosaic Idealize.ShloMosaic.TcCoe Idealize.SL.Sem
open Idealize.ShloMosaic.StableHlo

variable (V : Valuation τ sig (Elt Ideal)) (n : Fin 16384) (c : Fin 4)

/-- The five groups one after another. -/
theorem groups : (part 119 215 : List (HloOp τ sig (Elt Ideal))) = part 119 43 ++ (part 162 43 ++ (part 205 43 ++ (part 248 43 ++ part 291 43))) := rfl

/-- The random words: from a class's counter the five groups make the pair the counter is mixed to. -/
theorem mixed_read (w : BitVec 32) (hk : Keys V)
    (h0 : V (Proc.devRef .tc main_call2_call0_call0_v3) (ix2 n c) = (Threefry.inject 0#32 1#32 (0#32, w)).1)
    (h1 : V (Proc.devRef .tc main_call2_call0_call0_v5) (ix2 n c) = (Threefry.inject 0#32 1#32 (0#32, w)).2) :
    after (part 119 215) V (Proc.devRef .tc main_call2_call0_v18_0) (ix2 n c) = (Threefry.mixed w).1
      ∧ after (part 119 215) V (Proc.devRef .tc main_call2_call0_v18_1) (ix2 n c) = (Threefry.mixed w).2 := by
  rw [groups, after_append, after_append, after_append, after_append]
  obtain ⟨k1, a1, b1⟩ := group1 V n c _ hk h0 h1
  obtain ⟨k2, a2, b2⟩ := group2 _ n c _ k1 a1 b1
  obtain ⟨k3, a3, b3⟩ := group3 _ n c _ k2 a2 b2
  obtain ⟨k4, a4, b4⟩ := group4 _ n c _ k3 a3 b3
  exact (group5 _ n c _ k4 a4 b4).2

/-- What follows the probabilities, to the mixing, to the scores, to the end. -/
theorem later : (part 70 298 : List (HloOp τ sig (Elt Ideal))) = part 70 14 ++ (part 84 1 ++ (part 85 34 ++ (part 119 233 ++ (part 352 5 ++ part 357 11)))) := rfl

theorem mixing : (part 119 233 : List (HloOp τ sig (Elt Ideal))) = part 119 215 ++ part 334 18 := rfl

/-- The uniform number of a class's counter. -/
theorem noise_read (h0 : V (Proc.devRef .tc main_v49) (ix1 0) = 0#32) (h1 : V (Proc.devRef .tc main_v49) (ix1 1) = 1#32) :
    after (part 119 233) (after (part 85 34) V) (Proc.devRef .tc main_call2_v0) (ix2 n c)
      = Spec.uniform (Threefry.draw (BitVec.ofNat 32 (4 * n.val + c.val))) := by
  obtain ⟨hk, a, b⟩ := entry V n c h0 h1
  obtain ⟨a', b'⟩ := mixed_read _ n c _ hk a b
  rw [mixing, after_append]
  exact uniform_read _ n c _ a' b' ((congrFun (low_kept _) _).trans (low_read V)) ((congrFun (high_kept _) _).trans (high_read V))

/-- The sampled class, from the probabilities. -/
theorem sample_read (p : Fin 4 → EReal) (h : ∀ d, V (Proc.devRef .tc main_v38) (ix2 n d) = p d) :
    after (part 70 298) V (Proc.devRef .tc main_v56) (ix2 n c) = Spec.sample n.val p c := by
  rw [later, after_append, after_append, after_append, after_append, after_append]
  refine winner_read _ n c _ fun d => ?_
  refine score_read _ n d _ _ (noise_read _ n d (seed_zero _ (seed_high V)) (seed_one _ (seed_low V))) ?_
  refine (congrFun (log_kept _) _).trans (log_read _ n d _ ((congrFun (share_kept _) _).trans (share_read V n d p h)))

/-- The line is the probabilities and what follows them. -/
theorem halves : (ops : List (HloOp τ sig (Elt Ideal))) = part 0 70 ++ part 70 298 := rfl

/-- The two results of the line at node `n` and class `c`. -/
theorem results (g : Fin 16) (s : Fin 501)
    (hg : (V (Proc.devRef .tc main_arg1) (ix1 n) : BitVec 32).toNat = g.val)
    (hs : (V (Proc.devRef .tc main_arg2) (ix2 g 0) : BitVec 32).toNat = s.val) :
    after ops V (Proc.devRef .tc main_v38) (ix2 n c)
        = Spec.prob (FloatOps.ofBits (F := Ideal) .f32 (lit0 (S501.rowMajor (ix1 s)))) (fun k => V (Proc.devRef .tc main_arg0) (ix2 n k)) c
      ∧ after ops V (Proc.devRef .tc main_v56) (ix2 n c)
        = Spec.sample n.val (Spec.prob (FloatOps.ofBits (F := Ideal) .f32 (lit0 (S501.rowMajor (ix1 s))))
            (fun k => V (Proc.devRef .tc main_arg0) (ix2 n k))) c := by
  rw [halves, after_append]
  exact ⟨(congrFun (probs_kept _) _).trans (probs_read V n g s hg hs c), sample_read _ n c _ fun d => probs_read V n g s hg hs d⟩

end Cert.ReferenceIdeal.Line

end
-- ==== Proof.Algebraic.lean ====
/- The value claim: the kernel and the reference end with the same two results over the extended reals, the class
   probabilities and the sampled classes of every node. -/
module

public import proofs.«01_k».proof.Proof.KernelIdealValue
public import proofs.«01_k».proof.Proof.ReferenceValue
public import proofs.«01_k».proof.Proof.ReferenceRun

@[expose] public section

set_option maxRecDepth 65536

noncomputable section

namespace Cert.Algebraic

open Idealize Idealize.ShloMosaic Idealize.ShloMosaic.TcCoe Idealize.SL.Sem

/-- The two programs hold the same table of alphas. -/
theorem table_eq : Cert.ReferenceIdeal.lit0 = Cert.KernelIdeal.lit0 := rfl

open Cert.KernelIdeal.Body Cert.ReferenceIdeal.Line in
/-- From agreeing arguments, the reference's line leaves the kernel's two results. -/
theorem line_results
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    final m' c (Proc.devRef .tc Cert.ReferenceIdeal.main_v38) = probs h c
      ∧ final m' c (Proc.devRef .tc Cert.ReferenceIdeal.main_v56) = samples h c := by
  have key : ∀ (n : Fin 16384) (k : Fin 4),
      final m' c (Proc.devRef .tc Cert.ReferenceIdeal.main_v38) (ix2 n k) = probOf h c n k
        ∧ final m' c (Proc.devRef .tc Cert.ReferenceIdeal.main_v56) (ix2 n k) = Spec.sample n.val (probOf h c n) k := fun n k => by
    have e1 := congrArg (fun b : IVec Cert.ReferenceIdeal.S16384 32 => (b (ix1 n)).toNat) h1
    have e2 := congrArg (fun b : IVec Cert.ReferenceIdeal.S16x1 32 => (b (ix2 (graphOf h c n) 0)).toNat) h2
    have e := results (StableHlo.launchContents m' c) n k (graphOf h c n) (stepOf h c (graphOf h c n)) e1 e2
    have ep : Spec.prob (FloatOps.ofBits (F := Ideal) .f32 (Cert.ReferenceIdeal.lit0 (Cert.ReferenceIdeal.S501.rowMajor (ix1 (stepOf h c (graphOf h c n))))))
        (fun j => StableHlo.launchContents m' c (Proc.devRef .tc Cert.ReferenceIdeal.main_arg0) (ix2 n j)) = probOf h c n :=
      congrArg₂ Spec.prob (congrArg (fun t : Fin 501 → BitVec 32 => FloatOps.ofBits (F := Ideal) .f32 (t (Cert.ReferenceIdeal.S501.rowMajor (ix1 (stepOf h c (graphOf h c n)))))) table_eq)
        (funext fun j => congrFun h0 (ix2 n j))
    rw [ep] at e
    exact e
  have split : ∀ i : Cert.ReferenceIdeal.S16384x4.Idx, i = ix2 (i 0) (i 1) := fun i => by funext a; fin_cases a <;> rfl
  constructor
  · funext i
    rw [split i]
    exact (key (i 0) (i 1)).1
  · funext i
    rw [split i]
    exact (key (i 0) (i 1)).2

/-- The kernel and the reference compute the same function. -/
theorem algebraic : Cert.algebraic_KernelIdeal_ReferenceIdeal := fun m g m' g' h ha =>
  ⟨Cert.KernelIdeal.Body.probs h, Cert.KernelIdeal.Body.samples h,
    θ_run_mono (θ_run_and (Cert.KernelIdeal.Body.values g h) (Cert.KernelIdeal.Body.frame g (Cert.KernelIdeal.Body.indices_of_pre m h)))
      fun _ hr c => ⟨(hr.1 c).1, (hr.1 c).2, hr.2.1 c⟩,
    θ_run_mono (Cert.ReferenceIdeal.Line.ran m' g') fun _ hr c =>
      have e := line_results m m' h c (ha c).1 (ha c).2.1 (ha c).2.2
      ⟨(hr c _).trans e.1, (hr c _).trans e.2, (hr c _).trans (Cert.ReferenceIdeal.Line.kept0 _),
        (hr c _).trans (Cert.ReferenceIdeal.Line.kept1 _), (hr c _).trans (Cert.ReferenceIdeal.Line.kept2 _)⟩⟩

end Cert.Algebraic

end
-- ==== Proof.lean ====
/- The proof of the certificate's claim: the frames, and the value claim over the extended
   reals, each proved in a module of its own. -/
module

public import proofs.«01_k».proof.Defs
public import proofs.«01_k».proof.Proof.Frames
public import proofs.«01_k».proof.Proof.Algebraic

@[expose] public section

noncomputable section

namespace Cert.Proof

/-- Every claim of the certificate. -/
theorem claim : Cert.Claim :=
  ⟨Cert.KernelIdeal.Gen.facts, Cert.ReferenceIdeal.Gen.facts, Cert.Range.facts,
    Cert.Frames.kernelIdeal, Cert.Frames.referenceIdeal, Cert.Frames.referenceIdeal_in_range, Cert.Algebraic.algebraic⟩

end Cert.Proof

end
